-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2x512 : Shape := ⟨2, ![2, 512]⟩
abbrev S32x2x512 : Shape := ⟨3, ![32, 2, 512]⟩
abbrev S32 : Shape := ⟨1, ![32]⟩
abbrev S_ : Shape := ⟨0, ![]⟩
abbrev S512 : Shape := ⟨1, ![512]⟩
abbrev S1x512 : Shape := ⟨2, ![1, 512]⟩
abbrev S1x1x512 : Shape := ⟨3, ![1, 1, 512]⟩
abbrev S1 : Shape := ⟨1, ![1]⟩
abbrev S1x2x512 : Shape := ⟨3, ![1, 2, 512]⟩
abbrev S8x1x512 : Shape := ⟨3, ![8, 1, 512]⟩
abbrev S8x512 : Shape := ⟨2, ![8, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .bf16⟩
  | .hbm, ⟨1, _⟩ => ⟨S2x512, .f32⟩
  | .local _ .vmem, ⟨0, _⟩ => ⟨S512x512, .bf16⟩
  | .local _ .vmem, ⟨1, _⟩ => ⟨S2x512, .f32⟩
  | .local _ .vmem, ⟨2, _⟩ => ⟨S32x2x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_287 : BitVec 32 := 16#32
  let v428 : BitVec 32 := Scalar.addi v2 c16_i32_287
  let c32_i32_288 : BitVec 32 := 32#32
  let c0_i32_289 : BitVec 32 := 0#32
  let v429 : BitVec 1 := Scalar.cmpi .eq c32_i32_288 c0_i32_289
  let c1_i32_290 : BitVec 32 := 1#32
  let v430 : BitVec 32 := Scalar.select v429 c1_i32_290 c32_i32_288
  let v431 : BitVec 32 := Scalar.remsi v428 v430
  let c0_i32_292 : BitVec 32 := 0#32
  let v433 : BitVec 1 := Scalar.cmpi .slt v431 c0_i32_292
  let c0_i32_293 : BitVec 32 := 0#32
  let v434 : BitVec 1 := Scalar.cmpi .slt v430 c0_i32_293
  let v435 : BitVec 1 := Scalar.xori v433 v434
  let c0_i32_291 : BitVec 32 := 0#32
  let v432 : BitVec 1 := Scalar.cmpi .ne v431 c0_i32_291
  let v436 : BitVec 1 := Scalar.andi v435 v432
  let v437 : BitVec 32 := Scalar.addi v431 v430
  let v438 : BitVec 32 := Scalar.select v436 v437 v431
  let c1_i32_298 : BitVec 32 := 1#32
  let v439 : BitVec 32 := Scalar.muli v438 c1_i32_298
  let v440 : BitVec 32 := Scalar.addi c0_i32_299 v439
  v440.toNat
def k0_dev33 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_304 : BitVec 32 := 8#32
  let v449 : BitVec 32 := Scalar.addi v2 c8_i32_304
  let c32_i32_305 : BitVec 32 := 32#32
  let c0_i32_306 : BitVec 32 := 0#32
  let v450 : BitVec 1 := Scalar.cmpi .eq c32_i32_305 c0_i32_306
  let c1_i32_307 : BitVec 32 := 1#32
  let v451 : BitVec 32 := Scalar.select v450 c1_i32_307 c32_i32_305
  let v452 : BitVec 32 := Scalar.remsi v449 v451
  let c0_i32_309 : BitVec 32 := 0#32
  let v454 : BitVec 1 := Scalar.cmpi .slt v452 c0_i32_309
  let c0_i32_310 : BitVec 32 := 0#32
  let v455 : BitVec 1 := Scalar.cmpi .slt v451 c0_i32_310
  let v456 : BitVec 1 := Scalar.xori v454 v455
  let c0_i32_308 : BitVec 32 := 0#32
  let v453 : BitVec 1 := Scalar.cmpi .ne v452 c0_i32_308
  let v457 : BitVec 1 := Scalar.andi v456 v453
  let v458 : BitVec 32 := Scalar.addi v452 v451
  let v459 : BitVec 32 := Scalar.select v457 v458 v452
  let c1_i32_315 : BitVec 32 := 1#32
  let v460 : BitVec 32 := Scalar.muli v459 c1_i32_315
  let v461 : BitVec 32 := Scalar.addi c0_i32_316 v460
  v461.toNat
def k0_dev34 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_321 : BitVec 32 := 24#32
  let v470 : BitVec 32 := Scalar.addi v2 c24_i32_321
  let c32_i32_322 : BitVec 32 := 32#32
  let c0_i32_323 : BitVec 32 := 0#32
  let v471 : BitVec 1 := Scalar.cmpi .eq c32_i32_322 c0_i32_323
  let c1_i32_324 : BitVec 32 := 1#32
  let v472 : BitVec 32 := Scalar.select v471 c1_i32_324 c32_i32_322
  let v473 : BitVec 32 := Scalar.remsi v470 v472
  let c0_i32_326 : BitVec 32 := 0#32
  let v475 : BitVec 1 := Scalar.cmpi .slt v473 c0_i32_326
  let c0_i32_327 : BitVec 32 := 0#32
  let v476 : BitVec 1 := Scalar.cmpi .slt v472 c0_i32_327
  let v477 : BitVec 1 := Scalar.xori v475 v476
  let c0_i32_325 : BitVec 32 := 0#32
  let v474 : BitVec 1 := Scalar.cmpi .ne v473 c0_i32_325
  let v478 : BitVec 1 := Scalar.andi v477 v474
  let v479 : BitVec 32 := Scalar.addi v473 v472
  let v480 : BitVec 32 := Scalar.select v478 v479 v473
  let c1_i32_332 : BitVec 32 := 1#32
  let v481 : BitVec 32 := Scalar.muli v480 c1_i32_332
  let v482 : BitVec 32 := Scalar.addi c0_i32_333 v481
  v482.toNat
def k0_dev35 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_338 : BitVec 32 := 7#32
  let v491 : BitVec 32 := Scalar.addi v2 c7_i32_338
  let c32_i32_339 : BitVec 32 := 32#32
  let c0_i32_340 : BitVec 32 := 0#32
  let v492 : BitVec 1 := Scalar.cmpi .eq c32_i32_339 c0_i32_340
  let c1_i32_341 : BitVec 32 := 1#32
  let v493 : BitVec 32 := Scalar.select v492 c1_i32_341 c32_i32_339
  let v494 : BitVec 32 := Scalar.remsi v491 v493
  let c0_i32_343 : BitVec 32 := 0#32
  let v496 : BitVec 1 := Scalar.cmpi .slt v494 c0_i32_343
  let c0_i32_344 : BitVec 32 := 0#32
  let v497 : BitVec 1 := Scalar.cmpi .slt v493 c0_i32_344
  let v498 : BitVec 1 := Scalar.xori v496 v497
  let c0_i32_342 : BitVec 32 := 0#32
  let v495 : BitVec 1 := Scalar.cmpi .ne v494 c0_i32_342
  let v499 : BitVec 1 := Scalar.andi v498 v495
  let v500 : BitVec 32 := Scalar.addi v494 v493
  let v501 : BitVec 32 := Scalar.select v499 v500 v494
  let c1_i32_349 : BitVec 32 := 1#32
  let v502 : BitVec 32 := Scalar.muli v501 c1_i32_349
  let v503 : BitVec 32 := Scalar.addi c0_i32_350 v502
  v503.toNat
def k0_dev36 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_355 : BitVec 32 := 25#32
  let v512 : BitVec 32 := Scalar.addi v2 c25_i32_355
  let c32_i32_356 : BitVec 32 := 32#32
  let c0_i32_357 : BitVec 32 := 0#32
  let v513 : BitVec 1 := Scalar.cmpi .eq c32_i32_356 c0_i32_357
  let c1_i32_358 : BitVec 32 := 1#32
  let v514 : BitVec 32 := Scalar.select v513 c1_i32_358 c32_i32_356
  let v515 : BitVec 32 := Scalar.remsi v512 v514
  let c0_i32_360 : BitVec 32 := 0#32
  let v517 : BitVec 1 := Scalar.cmpi .slt v515 c0_i32_360
  let c0_i32_361 : BitVec 32 := 0#32
  let v518 : BitVec 1 := Scalar.cmpi .slt v514 c0_i32_361
  let v519 : BitVec 1 := Scalar.xori v517 v518
  let c0_i32_359 : BitVec 32 := 0#32
  let v516 : BitVec 1 := Scalar.cmpi .ne v515 c0_i32_359
  let v520 : BitVec 1 := Scalar.andi v519 v516
  let v521 : BitVec 32 := Scalar.addi v515 v514
  let v522 : BitVec 32 := Scalar.select v520 v521 v515
  let c1_i32_366 : BitVec 32 := 1#32
  let v523 : BitVec 32 := Scalar.muli v522 c1_i32_366
  let v524 : BitVec 32 := Scalar.addi c0_i32_367 v523
  v524.toNat
def k0_dev37 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_372 : BitVec 32 := 4#32
  let v533 : BitVec 32 := Scalar.addi v2 c4_i32_372
  let c32_i32_373 : BitVec 32 := 32#32
  let c0_i32_374 : BitVec 32 := 0#32
  let v534 : BitVec 1 := Scalar.cmpi .eq c32_i32_373 c0_i32_374
  let c1_i32_375 : BitVec 32 := 1#32
  let v535 : BitVec 32 := Scalar.select v534 c1_i32_375 c32_i32_373
  let v536 : BitVec 32 := Scalar.remsi v533 v535
  let c0_i32_377 : BitVec 32 := 0#32
  let v538 : BitVec 1 := Scalar.cmpi .slt v536 c0_i32_377
  let c0_i32_378 : BitVec 32 := 0#32
  let v539 : BitVec 1 := Scalar.cmpi .slt v535 c0_i32_378
  let v540 : BitVec 1 := Scalar.xori v538 v539
  let c0_i32_376 : BitVec 32 := 0#32
  let v537 : BitVec 1 := Scalar.cmpi .ne v536 c0_i32_376
  let v541 : BitVec 1 := Scalar.andi v540 v537
  let v542 : BitVec 32 := Scalar.addi v536 v535
  let v543 : BitVec 32 := Scalar.select v541 v542 v536
  let c1_i32_383 : BitVec 32 := 1#32
  let v544 : BitVec 32 := Scalar.muli v543 c1_i32_383
  let v545 : BitVec 32 := Scalar.addi c0_i32_384 v544
  v545.toNat
def k0_dev38 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_389 : BitVec 32 := 28#32
  let v554 : BitVec 32 := Scalar.addi v2 c28_i32_389
  let c32_i32_390 : BitVec 32 := 32#32
  let c0_i32_391 : BitVec 32 := 0#32
  let v555 : BitVec 1 := Scalar.cmpi .eq c32_i32_390 c0_i32_391
  let c1_i32_392 : BitVec 32 := 1#32
  let v556 : BitVec 32 := Scalar.select v555 c1_i32_392 c32_i32_390
  let v557 : BitVec 32 := Scalar.remsi v554 v556
  let c0_i32_394 : BitVec 32 := 0#32
  let v559 : BitVec 1 := Scalar.cmpi .slt v557 c0_i32_394
  let c0_i32_395 : BitVec 32 := 0#32
  let v560 : BitVec 1 := Scalar.cmpi .slt v556 c0_i32_395
  let v561 : BitVec 1 := Scalar.xori v559 v560
  let c0_i32_393 : BitVec 32 := 0#32
  let v558 : BitVec 1 := Scalar.cmpi .ne v557 c0_i32_393
  let v562 : BitVec 1 := Scalar.andi v561 v558
  let v563 : BitVec 32 := Scalar.addi v557 v556
  let v564 : BitVec 32 := Scalar.select v562 v563 v557
  let c1_i32_400 : BitVec 32 := 1#32
  let v565 : BitVec 32 := Scalar.muli v564 c1_i32_400
  let v566 : BitVec 32 := Scalar.addi c0_i32_401 v565
  v566.toNat
def k0_dev39 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_406 : BitVec 32 := 9#32
  let v575 : BitVec 32 := Scalar.addi v2 c9_i32_406
  let c32_i32_407 : BitVec 32 := 32#32
  let c0_i32_408 : BitVec 32 := 0#32
  let v576 : BitVec 1 := Scalar.cmpi .eq c32_i32_407 c0_i32_408
  let c1_i32_409 : BitVec 32 := 1#32
  let v577 : BitVec 32 := Scalar.select v576 c1_i32_409 c32_i32_407
  let v578 : BitVec 32 := Scalar.remsi v575 v577
  let c0_i32_411 : BitVec 32 := 0#32
  let v580 : BitVec 1 := Scalar.cmpi .slt v578 c0_i32_411
  let c0_i32_412 : BitVec 32 := 0#32
  let v581 : BitVec 1 := Scalar.cmpi .slt v577 c0_i32_412
  let v582 : BitVec 1 := Scalar.xori v580 v581
  let c0_i32_410 : BitVec 32 := 0#32
  let v579 : BitVec 1 := Scalar.cmpi .ne v578 c0_i32_410
  let v583 : BitVec 1 := Scalar.andi v582 v579
  let v584 : BitVec 32 := Scalar.addi v578 v577
  let v585 : BitVec 32 := Scalar.select v583 v584 v578
  let c1_i32_417 : BitVec 32 := 1#32
  let v586 : BitVec 32 := Scalar.muli v585 c1_i32_417
  let v587 : BitVec 32 := Scalar.addi c0_i32_418 v586
  v587.toNat
def k0_dev40 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_423 : BitVec 32 := 23#32
  let v596 : BitVec 32 := Scalar.addi v2 c23_i32_423
  let c32_i32_424 : BitVec 32 := 32#32
  let c0_i32_425 : BitVec 32 := 0#32
  let v597 : BitVec 1 := Scalar.cmpi .eq c32_i32_424 c0_i32_425
  let c1_i32_426 : BitVec 32 := 1#32
  let v598 : BitVec 32 := Scalar.select v597 c1_i32_426 c32_i32_424
  let v599 : BitVec 32 := Scalar.remsi v596 v598
  let c0_i32_428 : BitVec 32 := 0#32
  let v601 : BitVec 1 := Scalar.cmpi .slt v599 c0_i32_428
  let c0_i32_429 : BitVec 32 := 0#32
  let v602 : BitVec 1 := Scalar.cmpi .slt v598 c0_i32_429
  let v603 : BitVec 1 := Scalar.xori v601 v602
  let c0_i32_427 : BitVec 32 := 0#32
  let v600 : BitVec 1 := Scalar.cmpi .ne v599 c0_i32_427
  let v604 : BitVec 1 := Scalar.andi v603 v600
  let v605 : BitVec 32 := Scalar.addi v599 v598
  let v606 : BitVec 32 := Scalar.select v604 v605 v599
  let c1_i32_434 : BitVec 32 := 1#32
  let v607 : BitVec 32 := Scalar.muli v606 c1_i32_434
  let v608 : BitVec 32 := Scalar.addi c0_i32_435 v607
  v608.toNat
def k0_dev41 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_440 : BitVec 32 := 6#32
  let v617 : BitVec 32 := Scalar.addi v2 c6_i32_440
  let c32_i32_441 : BitVec 32 := 32#32
  let c0_i32_442 : BitVec 32 := 0#32
  let v618 : BitVec 1 := Scalar.cmpi .eq c32_i32_441 c0_i32_442
  let c1_i32_443 : BitVec 32 := 1#32
  let v619 : BitVec 32 := Scalar.select v618 c1_i32_443 c32_i32_441
  let v620 : BitVec 32 := Scalar.remsi v617 v619
  let c0_i32_445 : BitVec 32 := 0#32
  let v622 : BitVec 1 := Scalar.cmpi .slt v620 c0_i32_445
  let c0_i32_446 : BitVec 32 := 0#32
  let v623 : BitVec 1 := Scalar.cmpi .slt v619 c0_i32_446
  let v624 : BitVec 1 := Scalar.xori v622 v623
  let c0_i32_444 : BitVec 32 := 0#32
  let v621 : BitVec 1 := Scalar.cmpi .ne v620 c0_i32_444
  let v625 : BitVec 1 := Scalar.andi v624 v621
  let v626 : BitVec 32 := Scalar.addi v620 v619
  let v627 : BitVec 32 := Scalar.select v625 v626 v620
  let c1_i32_451 : BitVec 32 := 1#32
  let v628 : BitVec 32 := Scalar.muli v627 c1_i32_451
  let v629 : BitVec 32 := Scalar.addi c0_i32_452 v628
  v629.toNat
def k0_dev42 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_457 : BitVec 32 := 26#32
  let v638 : BitVec 32 := Scalar.addi v2 c26_i32_457
  let c32_i32_458 : BitVec 32 := 32#32
  let c0_i32_459 : BitVec 32 := 0#32
  let v639 : BitVec 1 := Scalar.cmpi .eq c32_i32_458 c0_i32_459
  let c1_i32_460 : BitVec 32 := 1#32
  let v640 : BitVec 32 := Scalar.select v639 c1_i32_460 c32_i32_458
  let v641 : BitVec 32 := Scalar.remsi v638 v640
  let c0_i32_462 : BitVec 32 := 0#32
  let v643 : BitVec 1 := Scalar.cmpi .slt v641 c0_i32_462
  let c0_i32_463 : BitVec 32 := 0#32
  let v644 : BitVec 1 := Scalar.cmpi .slt v640 c0_i32_463
  let v645 : BitVec 1 := Scalar.xori v643 v644
  let c0_i32_461 : BitVec 32 := 0#32
  let v642 : BitVec 1 := Scalar.cmpi .ne v641 c0_i32_461
  let v646 : BitVec 1 := Scalar.andi v645 v642
  let v647 : BitVec 32 := Scalar.addi v641 v640
  let v648 : BitVec 32 := Scalar.select v646 v647 v641
  let c1_i32_468 : BitVec 32 := 1#32
  let v649 : BitVec 32 := Scalar.muli v648 c1_i32_468
  let v650 : BitVec 32 := Scalar.addi c0_i32_469 v649
  v650.toNat
def k0_dev43 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_474 : BitVec 32 := 12#32
  let v659 : BitVec 32 := Scalar.addi v2 c12_i32_474
  let c32_i32_475 : BitVec 32 := 32#32
  let c0_i32_476 : BitVec 32 := 0#32
  let v660 : BitVec 1 := Scalar.cmpi .eq c32_i32_475 c0_i32_476
  let c1_i32_477 : BitVec 32 := 1#32
  let v661 : BitVec 32 := Scalar.select v660 c1_i32_477 c32_i32_475
  let v662 : BitVec 32 := Scalar.remsi v659 v661
  let c0_i32_479 : BitVec 32 := 0#32
  let v664 : BitVec 1 := Scalar.cmpi .slt v662 c0_i32_479
  let c0_i32_480 : BitVec 32 := 0#32
  let v665 : BitVec 1 := Scalar.cmpi .slt v661 c0_i32_480
  let v666 : BitVec 1 := Scalar.xori v664 v665
  let c0_i32_478 : BitVec 32 := 0#32
  let v663 : BitVec 1 := Scalar.cmpi .ne v662 c0_i32_478
  let v667 : BitVec 1 := Scalar.andi v666 v663
  let v668 : BitVec 32 := Scalar.addi v662 v661
  let v669 : BitVec 32 := Scalar.select v667 v668 v662
  let c1_i32_485 : BitVec 32 := 1#32
  let v670 : BitVec 32 := Scalar.muli v669 c1_i32_485
  let v671 : BitVec 32 := Scalar.addi c0_i32_486 v670
  v671.toNat
def k0_dev44 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_491 : BitVec 32 := 20#32
  let v680 : BitVec 32 := Scalar.addi v2 c20_i32_491
  let c32_i32_492 : BitVec 32 := 32#32
  let c0_i32_493 : BitVec 32 := 0#32
  let v681 : BitVec 1 := Scalar.cmpi .eq c32_i32_492 c0_i32_493
  let c1_i32_494 : BitVec 32 := 1#32
  let v682 : BitVec 32 := Scalar.select v681 c1_i32_494 c32_i32_492
  let v683 : BitVec 32 := Scalar.remsi v680 v682
  let c0_i32_496 : BitVec 32 := 0#32
  let v685 : BitVec 1 := Scalar.cmpi .slt v683 c0_i32_496
  let c0_i32_497 : BitVec 32 := 0#32
  let v686 : BitVec 1 := Scalar.cmpi .slt v682 c0_i32_497
  let v687 : BitVec 1 := Scalar.xori v685 v686
  let c0_i32_495 : BitVec 32 := 0#32
  let v684 : BitVec 1 := Scalar.cmpi .ne v683 c0_i32_495
  let v688 : BitVec 1 := Scalar.andi v687 v684
  let v689 : BitVec 32 := Scalar.addi v683 v682
  let v690 : BitVec 32 := Scalar.select v688 v689 v683
  let c1_i32_502 : BitVec 32 := 1#32
  let v691 : BitVec 32 := Scalar.muli v690 c1_i32_502
  let v692 : BitVec 32 := Scalar.addi c0_i32_503 v691
  v692.toNat
def k0_dev45 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_508 : BitVec 32 := 1#32
  let v701 : BitVec 32 := Scalar.addi v2 c1_i32_508
  let c32_i32_509 : BitVec 32 := 32#32
  let c0_i32_510 : BitVec 32 := 0#32
  let v702 : BitVec 1 := Scalar.cmpi .eq c32_i32_509 c0_i32_510
  let c1_i32_511 : BitVec 32 := 1#32
  let v703 : BitVec 32 := Scalar.select v702 c1_i32_511 c32_i32_509
  let v704 : BitVec 32 := Scalar.remsi v701 v703
  let c0_i32_513 : BitVec 32 := 0#32
  let v706 : BitVec 1 := Scalar.cmpi .slt v704 c0_i32_513
  let c0_i32_514 : BitVec 32 := 0#32
  let v707 : BitVec 1 := Scalar.cmpi .slt v703 c0_i32_514
  let v708 : BitVec 1 := Scalar.xori v706 v707
  let c0_i32_512 : BitVec 32 := 0#32
  let v705 : BitVec 1 := Scalar.cmpi .ne v704 c0_i32_512
  let v709 : BitVec 1 := Scalar.andi v708 v705
  let v710 : BitVec 32 := Scalar.addi v704 v703
  let v711 : BitVec 32 := Scalar.select v709 v710 v704
  let c1_i32_519 : BitVec 32 := 1#32
  let v712 : BitVec 32 := Scalar.muli v711 c1_i32_519
  let v713 : BitVec 32 := Scalar.addi c0_i32_520 v712
  v713.toNat
def k0_dev46 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_525 : BitVec 32 := 31#32
  let v722 : BitVec 32 := Scalar.addi v2 c31_i32_525
  let c32_i32_526 : BitVec 32 := 32#32
  let c0_i32_527 : BitVec 32 := 0#32
  let v723 : BitVec 1 := Scalar.cmpi .eq c32_i32_526 c0_i32_527
  let c1_i32_528 : BitVec 32 := 1#32
  let v724 : BitVec 32 := Scalar.select v723 c1_i32_528 c32_i32_526
  let v725 : BitVec 32 := Scalar.remsi v722 v724
  let c0_i32_530 : BitVec 32 := 0#32
  let v727 : BitVec 1 := Scalar.cmpi .slt v725 c0_i32_530
  let c0_i32_531 : BitVec 32 := 0#32
  let v728 : BitVec 1 := Scalar.cmpi .slt v724 c0_i32_531
  let v729 : BitVec 1 := Scalar.xori v727 v728
  let c0_i32_529 : BitVec 32 := 0#32
  let v726 : BitVec 1 := Scalar.cmpi .ne v725 c0_i32_529
  let v730 : BitVec 1 := Scalar.andi v729 v726
  let v731 : BitVec 32 := Scalar.addi v725 v724
  let v732 : BitVec 32 := Scalar.select v730 v731 v725
  let c1_i32_536 : BitVec 32 := 1#32
  let v733 : BitVec 32 := Scalar.muli v732 c1_i32_536
  let v734 : BitVec 32 := Scalar.addi c0_i32_537 v733
  v734.toNat
def k0_dev47 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_542 : BitVec 32 := 3#32
  let v743 : BitVec 32 := Scalar.addi v2 c3_i32_542
  let c32_i32_543 : BitVec 32 := 32#32
  let c0_i32_544 : BitVec 32 := 0#32
  let v744 : BitVec 1 := Scalar.cmpi .eq c32_i32_543 c0_i32_544
  let c1_i32_545 : BitVec 32 := 1#32
  let v745 : BitVec 32 := Scalar.select v744 c1_i32_545 c32_i32_543
  let v746 : BitVec 32 := Scalar.remsi v743 v745
  let c0_i32_547 : BitVec 32 := 0#32
  let v748 : BitVec 1 := Scalar.cmpi .slt v746 c0_i32_547
  let c0_i32_548 : BitVec 32 := 0#32
  let v749 : BitVec 1 := Scalar.cmpi .slt v745 c0_i32_548
  let v750 : BitVec 1 := Scalar.xori v748 v749
  let c0_i32_546 : BitVec 32 := 0#32
  let v747 : BitVec 1 := Scalar.cmpi .ne v746 c0_i32_546
  let v751 : BitVec 1 := Scalar.andi v750 v747
  let v752 : BitVec 32 := Scalar.addi v746 v745
  let v753 : BitVec 32 := Scalar.select v751 v752 v746
  let c1_i32_553 : BitVec 32 := 1#32
  let v754 : BitVec 32 := Scalar.muli v753 c1_i32_553
  let v755 : BitVec 32 := Scalar.addi c0_i32_554 v754
  v755.toNat
def k0_dev48 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_559 : BitVec 32 := 29#32
  let v764 : BitVec 32 := Scalar.addi v2 c29_i32_559
  let c32_i32_560 : BitVec 32 := 32#32
  let c0_i32_561 : BitVec 32 := 0#32
  let v765 : BitVec 1 := Scalar.cmpi .eq c32_i32_560 c0_i32_561
  let c1_i32_562 : BitVec 32 := 1#32
  let v766 : BitVec 32 := Scalar.select v765 c1_i32_562 c32_i32_560
  let v767 : BitVec 32 := Scalar.remsi v764 v766
  let c0_i32_564 : BitVec 32 := 0#32
  let v769 : BitVec 1 := Scalar.cmpi .slt v767 c0_i32_564
  let c0_i32_565 : BitVec 32 := 0#32
  let v770 : BitVec 1 := Scalar.cmpi .slt v766 c0_i32_565
  let v771 : BitVec 1 := Scalar.xori v769 v770
  let c0_i32_563 : BitVec 32 := 0#32
  let v768 : BitVec 1 := Scalar.cmpi .ne v767 c0_i32_563
  let v772 : BitVec 1 := Scalar.andi v771 v768
  let v773 : BitVec 32 := Scalar.addi v767 v766
  let v774 : BitVec 32 := Scalar.select v772 v773 v767
  let c1_i32_570 : BitVec 32 := 1#32
  let v775 : BitVec 32 := Scalar.muli v774 c1_i32_570
  let v776 : BitVec 32 := Scalar.addi c0_i32_571 v775
  v776.toNat
def k0_dev49 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_576 : BitVec 32 := 5#32
  let v785 : BitVec 32 := Scalar.addi v2 c5_i32_576
  let c32_i32_577 : BitVec 32 := 32#32
  let c0_i32_578 : BitVec 32 := 0#32
  let v786 : BitVec 1 := Scalar.cmpi .eq c32_i32_577 c0_i32_578
  let c1_i32_579 : BitVec 32 := 1#32
  let v787 : BitVec 32 := Scalar.select v786 c1_i32_579 c32_i32_577
  let v788 : BitVec 32 := Scalar.remsi v785 v787
  let c0_i32_581 : BitVec 32 := 0#32
  let v790 : BitVec 1 := Scalar.cmpi .slt v788 c0_i32_581
  let c0_i32_582 : BitVec 32 := 0#32
  let v791 : BitVec 1 := Scalar.cmpi .slt v787 c0_i32_582
  let v792 : BitVec 1 := Scalar.xori v790 v791
  let c0_i32_580 : BitVec 32 := 0#32
  let v789 : BitVec 1 := Scalar.cmpi .ne v788 c0_i32_580
  let v793 : BitVec 1 := Scalar.andi v792 v789
  let v794 : BitVec 32 := Scalar.addi v788 v787
  let v795 : BitVec 32 := Scalar.select v793 v794 v788
  let c1_i32_587 : BitVec 32 := 1#32
  let v796 : BitVec 32 := Scalar.muli v795 c1_i32_587
  let v797 : BitVec 32 := Scalar.addi c0_i32_588 v796
  v797.toNat
def k0_dev50 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_593 : BitVec 32 := 15#32
  let v806 : BitVec 32 := Scalar.addi v2 c15_i32_593
  let c32_i32_594 : BitVec 32 := 32#32
  let c0_i32_595 : BitVec 32 := 0#32
  let v807 : BitVec 1 := Scalar.cmpi .eq c32_i32_594 c0_i32_595
  let c1_i32_596 : BitVec 32 := 1#32
  let v808 : BitVec 32 := Scalar.select v807 c1_i32_596 c32_i32_594
  let v809 : BitVec 32 := Scalar.remsi v806 v808
  let c0_i32_598 : BitVec 32 := 0#32
  let v811 : BitVec 1 := Scalar.cmpi .slt v809 c0_i32_598
  let c0_i32_599 : BitVec 32 := 0#32
  let v812 : BitVec 1 := Scalar.cmpi .slt v808 c0_i32_599
  let v813 : BitVec 1 := Scalar.xori v811 v812
  let c0_i32_597 : BitVec 32 := 0#32
  let v810 : BitVec 1 := Scalar.cmpi .ne v809 c0_i32_597
  let v814 : BitVec 1 := Scalar.andi v813 v810
  let v815 : BitVec 32 := Scalar.addi v809 v808
  let v816 : BitVec 32 := Scalar.select v814 v815 v809
  let c1_i32_604 : BitVec 32 := 1#32
  let v817 : BitVec 32 := Scalar.muli v816 c1_i32_604
  let v818 : BitVec 32 := Scalar.addi c0_i32_605 v817
  v818.toNat
def k0_dev51 (d0 : Dev nD) : Nat :=
  let c0_i32_622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_610 : BitVec 32 := 17#32
  let v827 : BitVec 32 := Scalar.addi v2 c17_i32_610
  let c32_i32_611 : BitVec 32 := 32#32
  let c0_i32_612 : BitVec 32 := 0#32
  let v828 : BitVec 1 := Scalar.cmpi .eq c32_i32_611 c0_i32_612
  let c1_i32_613 : BitVec 32 := 1#32
  let v829 : BitVec 32 := Scalar.select v828 c1_i32_613 c32_i32_611
  let v830 : BitVec 32 := Scalar.remsi v827 v829
  let c0_i32_615 : BitVec 32 := 0#32
  let v832 : BitVec 1 := Scalar.cmpi .slt v830 c0_i32_615
  let c0_i32_616 : BitVec 32 := 0#32
  let v833 : BitVec 1 := Scalar.cmpi .slt v829 c0_i32_616
  let v834 : BitVec 1 := Scalar.xori v832 v833
  let c0_i32_614 : BitVec 32 := 0#32
  let v831 : BitVec 1 := Scalar.cmpi .ne v830 c0_i32_614
  let v835 : BitVec 1 := Scalar.andi v834 v831
  let v836 : BitVec 32 := Scalar.addi v830 v829
  let v837 : BitVec 32 := Scalar.select v835 v836 v830
  let c1_i32_621 : BitVec 32 := 1#32
  let v838 : BitVec 32 := Scalar.muli v837 c1_i32_621
  let v839 : BitVec 32 := Scalar.addi c0_i32_622 v838
  v839.toNat
def k0_dev52 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_627 : BitVec 32 := 27#32
  let v848 : BitVec 32 := Scalar.addi v2 c27_i32_627
  let c32_i32_628 : BitVec 32 := 32#32
  let c0_i32_629 : BitVec 32 := 0#32
  let v849 : BitVec 1 := Scalar.cmpi .eq c32_i32_628 c0_i32_629
  let c1_i32_630 : BitVec 32 := 1#32
  let v850 : BitVec 32 := Scalar.select v849 c1_i32_630 c32_i32_628
  let v851 : BitVec 32 := Scalar.remsi v848 v850
  let c0_i32_632 : BitVec 32 := 0#32
  let v853 : BitVec 1 := Scalar.cmpi .slt v851 c0_i32_632
  let c0_i32_633 : BitVec 32 := 0#32
  let v854 : BitVec 1 := Scalar.cmpi .slt v850 c0_i32_633
  let v855 : BitVec 1 := Scalar.xori v853 v854
  let c0_i32_631 : BitVec 32 := 0#32
  let v852 : BitVec 1 := Scalar.cmpi .ne v851 c0_i32_631
  let v856 : BitVec 1 := Scalar.andi v855 v852
  let v857 : BitVec 32 := Scalar.addi v851 v850
  let v858 : BitVec 32 := Scalar.select v856 v857 v851
  let c1_i32_638 : BitVec 32 := 1#32
  let v859 : BitVec 32 := Scalar.muli v858 c1_i32_638
  let v860 : BitVec 32 := Scalar.addi c0_i32_639 v859
  v860.toNat
def k0_dev53 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_644 : BitVec 32 := 11#32
  let v869 : BitVec 32 := Scalar.addi v2 c11_i32_644
  let c32_i32_645 : BitVec 32 := 32#32
  let c0_i32_646 : BitVec 32 := 0#32
  let v870 : BitVec 1 := Scalar.cmpi .eq c32_i32_645 c0_i32_646
  let c1_i32_647 : BitVec 32 := 1#32
  let v871 : BitVec 32 := Scalar.select v870 c1_i32_647 c32_i32_645
  let v872 : BitVec 32 := Scalar.remsi v869 v871
  let c0_i32_649 : BitVec 32 := 0#32
  let v874 : BitVec 1 := Scalar.cmpi .slt v872 c0_i32_649
  let c0_i32_650 : BitVec 32 := 0#32
  let v875 : BitVec 1 := Scalar.cmpi .slt v871 c0_i32_650
  let v876 : BitVec 1 := Scalar.xori v874 v875
  let c0_i32_648 : BitVec 32 := 0#32
  let v873 : BitVec 1 := Scalar.cmpi .ne v872 c0_i32_648
  let v877 : BitVec 1 := Scalar.andi v876 v873
  let v878 : BitVec 32 := Scalar.addi v872 v871
  let v879 : BitVec 32 := Scalar.select v877 v878 v872
  let c1_i32_655 : BitVec 32 := 1#32
  let v880 : BitVec 32 := Scalar.muli v879 c1_i32_655
  let v881 : BitVec 32 := Scalar.addi c0_i32_656 v880
  v881.toNat
def k0_dev54 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_661 : BitVec 32 := 21#32
  let v890 : BitVec 32 := Scalar.addi v2 c21_i32_661
  let c32_i32_662 : BitVec 32 := 32#32
  let c0_i32_663 : BitVec 32 := 0#32
  let v891 : BitVec 1 := Scalar.cmpi .eq c32_i32_662 c0_i32_663
  let c1_i32_664 : BitVec 32 := 1#32
  let v892 : BitVec 32 := Scalar.select v891 c1_i32_664 c32_i32_662
  let v893 : BitVec 32 := Scalar.remsi v890 v892
  let c0_i32_666 : BitVec 32 := 0#32
  let v895 : BitVec 1 := Scalar.cmpi .slt v893 c0_i32_666
  let c0_i32_667 : BitVec 32 := 0#32
  let v896 : BitVec 1 := Scalar.cmpi .slt v892 c0_i32_667
  let v897 : BitVec 1 := Scalar.xori v895 v896
  let c0_i32_665 : BitVec 32 := 0#32
  let v894 : BitVec 1 := Scalar.cmpi .ne v893 c0_i32_665
  let v898 : BitVec 1 := Scalar.andi v897 v894
  let v899 : BitVec 32 := Scalar.addi v893 v892
  let v900 : BitVec 32 := Scalar.select v898 v899 v893
  let c1_i32_672 : BitVec 32 := 1#32
  let v901 : BitVec 32 := Scalar.muli v900 c1_i32_672
  let v902 : BitVec 32 := Scalar.addi c0_i32_673 v901
  v902.toNat
def k0_dev55 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_678 : BitVec 32 := 13#32
  let v911 : BitVec 32 := Scalar.addi v2 c13_i32_678
  let c32_i32_679 : BitVec 32 := 32#32
  let c0_i32_680 : BitVec 32 := 0#32
  let v912 : BitVec 1 := Scalar.cmpi .eq c32_i32_679 c0_i32_680
  let c1_i32_681 : BitVec 32 := 1#32
  let v913 : BitVec 32 := Scalar.select v912 c1_i32_681 c32_i32_679
  let v914 : BitVec 32 := Scalar.remsi v911 v913
  let c0_i32_683 : BitVec 32 := 0#32
  let v916 : BitVec 1 := Scalar.cmpi .slt v914 c0_i32_683
  let c0_i32_684 : BitVec 32 := 0#32
  let v917 : BitVec 1 := Scalar.cmpi .slt v913 c0_i32_684
  let v918 : BitVec 1 := Scalar.xori v916 v917
  let c0_i32_682 : BitVec 32 := 0#32
  let v915 : BitVec 1 := Scalar.cmpi .ne v914 c0_i32_682
  let v919 : BitVec 1 := Scalar.andi v918 v915
  let v920 : BitVec 32 := Scalar.addi v914 v913
  let v921 : BitVec 32 := Scalar.select v919 v920 v914
  let c1_i32_689 : BitVec 32 := 1#32
  let v922 : BitVec 32 := Scalar.muli v921 c1_i32_689
  let v923 : BitVec 32 := Scalar.addi c0_i32_690 v922
  v923.toNat
def k0_dev56 (d0 : Dev nD) : Nat :=
  let c0_i32_707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_695 : BitVec 32 := 19#32
  let v932 : BitVec 32 := Scalar.addi v2 c19_i32_695
  let c32_i32_696 : BitVec 32 := 32#32
  let c0_i32_697 : BitVec 32 := 0#32
  let v933 : BitVec 1 := Scalar.cmpi .eq c32_i32_696 c0_i32_697
  let c1_i32_698 : BitVec 32 := 1#32
  let v934 : BitVec 32 := Scalar.select v933 c1_i32_698 c32_i32_696
  let v935 : BitVec 32 := Scalar.remsi v932 v934
  let c0_i32_700 : BitVec 32 := 0#32
  let v937 : BitVec 1 := Scalar.cmpi .slt v935 c0_i32_700
  let c0_i32_701 : BitVec 32 := 0#32
  let v938 : BitVec 1 := Scalar.cmpi .slt v934 c0_i32_701
  let v939 : BitVec 1 := Scalar.xori v937 v938
  let c0_i32_699 : BitVec 32 := 0#32
  let v936 : BitVec 1 := Scalar.cmpi .ne v935 c0_i32_699
  let v940 : BitVec 1 := Scalar.andi v939 v936
  let v941 : BitVec 32 := Scalar.addi v935 v934
  let v942 : BitVec 32 := Scalar.select v940 v941 v935
  let c1_i32_706 : BitVec 32 := 1#32
  let v943 : BitVec 32 := Scalar.muli v942 c1_i32_706
  let v944 : BitVec 32 := Scalar.addi c0_i32_707 v943
  v944.toNat
def k0_dev57 (d0 : Dev nD) : Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_712 : BitVec 32 := 10#32
  let v953 : BitVec 32 := Scalar.addi v2 c10_i32_712
  let c32_i32_713 : BitVec 32 := 32#32
  let c0_i32_714 : BitVec 32 := 0#32
  let v954 : BitVec 1 := Scalar.cmpi .eq c32_i32_713 c0_i32_714
  let c1_i32_715 : BitVec 32 := 1#32
  let v955 : BitVec 32 := Scalar.select v954 c1_i32_715 c32_i32_713
  let v956 : BitVec 32 := Scalar.remsi v953 v955
  let c0_i32_717 : BitVec 32 := 0#32
  let v958 : BitVec 1 := Scalar.cmpi .slt v956 c0_i32_717
  let c0_i32_718 : BitVec 32 := 0#32
  let v959 : BitVec 1 := Scalar.cmpi .slt v955 c0_i32_718
  let v960 : BitVec 1 := Scalar.xori v958 v959
  let c0_i32_716 : BitVec 32 := 0#32
  let v957 : BitVec 1 := Scalar.cmpi .ne v956 c0_i32_716
  let v961 : BitVec 1 := Scalar.andi v960 v957
  let v962 : BitVec 32 := Scalar.addi v956 v955
  let v963 : BitVec 32 := Scalar.select v961 v962 v956
  let c1_i32_723 : BitVec 32 := 1#32
  let v964 : BitVec 32 := Scalar.muli v963 c1_i32_723
  let v965 : BitVec 32 := Scalar.addi c0_i32_724 v964
  v965.toNat
def k0_dev58 (d0 : Dev nD) : Nat :=
  let c0_i32_741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_729 : BitVec 32 := 22#32
  let v974 : BitVec 32 := Scalar.addi v2 c22_i32_729
  let c32_i32_730 : BitVec 32 := 32#32
  let c0_i32_731 : BitVec 32 := 0#32
  let v975 : BitVec 1 := Scalar.cmpi .eq c32_i32_730 c0_i32_731
  let c1_i32_732 : BitVec 32 := 1#32
  let v976 : BitVec 32 := Scalar.select v975 c1_i32_732 c32_i32_730
  let v977 : BitVec 32 := Scalar.remsi v974 v976
  let c0_i32_734 : BitVec 32 := 0#32
  let v979 : BitVec 1 := Scalar.cmpi .slt v977 c0_i32_734
  let c0_i32_735 : BitVec 32 := 0#32
  let v980 : BitVec 1 := Scalar.cmpi .slt v976 c0_i32_735
  let v981 : BitVec 1 := Scalar.xori v979 v980
  let c0_i32_733 : BitVec 32 := 0#32
  let v978 : BitVec 1 := Scalar.cmpi .ne v977 c0_i32_733
  let v982 : BitVec 1 := Scalar.andi v981 v978
  let v983 : BitVec 32 := Scalar.addi v977 v976
  let v984 : BitVec 32 := Scalar.select v982 v983 v977
  let c1_i32_740 : BitVec 32 := 1#32
  let v985 : BitVec 32 := Scalar.muli v984 c1_i32_740
  let v986 : BitVec 32 := Scalar.addi c0_i32_741 v985
  v986.toNat
def k0_dev59 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_746 : BitVec 32 := 2#32
  let v995 : BitVec 32 := Scalar.addi v2 c2_i32_746
  let c32_i32_747 : BitVec 32 := 32#32
  let c0_i32_748 : BitVec 32 := 0#32
  let v996 : BitVec 1 := Scalar.cmpi .eq c32_i32_747 c0_i32_748
  let c1_i32_749 : BitVec 32 := 1#32
  let v997 : BitVec 32 := Scalar.select v996 c1_i32_749 c32_i32_747
  let v998 : BitVec 32 := Scalar.remsi v995 v997
  let c0_i32_751 : BitVec 32 := 0#32
  let v1000 : BitVec 1 := Scalar.cmpi .slt v998 c0_i32_751
  let c0_i32_752 : BitVec 32 := 0#32
  let v1001 : BitVec 1 := Scalar.cmpi .slt v997 c0_i32_752
  let v1002 : BitVec 1 := Scalar.xori v1000 v1001
  let c0_i32_750 : BitVec 32 := 0#32
  let v999 : BitVec 1 := Scalar.cmpi .ne v998 c0_i32_750
  let v1003 : BitVec 1 := Scalar.andi v1002 v999
  let v1004 : BitVec 32 := Scalar.addi v998 v997
  let v1005 : BitVec 32 := Scalar.select v1003 v1004 v998
  let c1_i32_757 : BitVec 32 := 1#32
  let v1006 : BitVec 32 := Scalar.muli v1005 c1_i32_757
  let v1007 : BitVec 32 := Scalar.addi c0_i32_758 v1006
  v1007.toNat
def k0_dev60 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_763 : BitVec 32 := 30#32
  let v1016 : BitVec 32 := Scalar.addi v2 c30_i32_763
  let c32_i32_764 : BitVec 32 := 32#32
  let c0_i32_765 : BitVec 32 := 0#32
  let v1017 : BitVec 1 := Scalar.cmpi .eq c32_i32_764 c0_i32_765
  let c1_i32_766 : BitVec 32 := 1#32
  let v1018 : BitVec 32 := Scalar.select v1017 c1_i32_766 c32_i32_764
  let v1019 : BitVec 32 := Scalar.remsi v1016 v1018
  let c0_i32_768 : BitVec 32 := 0#32
  let v1021 : BitVec 1 := Scalar.cmpi .slt v1019 c0_i32_768
  let c0_i32_769 : BitVec 32 := 0#32
  let v1022 : BitVec 1 := Scalar.cmpi .slt v1018 c0_i32_769
  let v1023 : BitVec 1 := Scalar.xori v1021 v1022
  let c0_i32_767 : BitVec 32 := 0#32
  let v1020 : BitVec 1 := Scalar.cmpi .ne v1019 c0_i32_767
  let v1024 : BitVec 1 := Scalar.andi v1023 v1020
  let v1025 : BitVec 32 := Scalar.addi v1019 v1018
  let v1026 : BitVec 32 := Scalar.select v1024 v1025 v1019
  let c1_i32_774 : BitVec 32 := 1#32
  let v1027 : BitVec 32 := Scalar.muli v1026 c1_i32_774
  let v1028 : BitVec 32 := Scalar.addi c0_i32_775 v1027
  v1028.toNat
def k0_dev61 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_780 : BitVec 32 := 14#32
  let v1037 : BitVec 32 := Scalar.addi v2 c14_i32_780
  let c32_i32_781 : BitVec 32 := 32#32
  let c0_i32_782 : BitVec 32 := 0#32
  let v1038 : BitVec 1 := Scalar.cmpi .eq c32_i32_781 c0_i32_782
  let c1_i32_783 : BitVec 32 := 1#32
  let v1039 : BitVec 32 := Scalar.select v1038 c1_i32_783 c32_i32_781
  let v1040 : BitVec 32 := Scalar.remsi v1037 v1039
  let c0_i32_785 : BitVec 32 := 0#32
  let v1042 : BitVec 1 := Scalar.cmpi .slt v1040 c0_i32_785
  let c0_i32_786 : BitVec 32 := 0#32
  let v1043 : BitVec 1 := Scalar.cmpi .slt v1039 c0_i32_786
  let v1044 : BitVec 1 := Scalar.xori v1042 v1043
  let c0_i32_784 : BitVec 32 := 0#32
  let v1041 : BitVec 1 := Scalar.cmpi .ne v1040 c0_i32_784
  let v1045 : BitVec 1 := Scalar.andi v1044 v1041
  let v1046 : BitVec 32 := Scalar.addi v1040 v1039
  let v1047 : BitVec 32 := Scalar.select v1045 v1046 v1040
  let c1_i32_791 : BitVec 32 := 1#32
  let v1048 : BitVec 32 := Scalar.muli v1047 c1_i32_791
  let v1049 : BitVec 32 := Scalar.addi c0_i32_792 v1048
  v1049.toNat
def k0_dev62 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_797 : BitVec 32 := 18#32
  let v1058 : BitVec 32 := Scalar.addi v2 c18_i32_797
  let c32_i32_798 : BitVec 32 := 32#32
  let c0_i32_799 : BitVec 32 := 0#32
  let v1059 : BitVec 1 := Scalar.cmpi .eq c32_i32_798 c0_i32_799
  let c1_i32_800 : BitVec 32 := 1#32
  let v1060 : BitVec 32 := Scalar.select v1059 c1_i32_800 c32_i32_798
  let v1061 : BitVec 32 := Scalar.remsi v1058 v1060
  let c0_i32_802 : BitVec 32 := 0#32
  let v1063 : BitVec 1 := Scalar.cmpi .slt v1061 c0_i32_802
  let c0_i32_803 : BitVec 32 := 0#32
  let v1064 : BitVec 1 := Scalar.cmpi .slt v1060 c0_i32_803
  let v1065 : BitVec 1 := Scalar.xori v1063 v1064
  let c0_i32_801 : BitVec 32 := 0#32
  let v1062 : BitVec 1 := Scalar.cmpi .ne v1061 c0_i32_801
  let v1066 : BitVec 1 := Scalar.andi v1065 v1062
  let v1067 : BitVec 32 := Scalar.addi v1061 v1060
  let v1068 : BitVec 32 := Scalar.select v1066 v1067 v1061
  let c1_i32_808 : BitVec 32 := 1#32
  let v1069 : BitVec 32 := Scalar.muli v1068 c1_i32_808
  let v1070 : BitVec 32 := Scalar.addi c0_i32_809 v1069
  v1070.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 13
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .i32⟩
  | .hbm, ⟨2, _⟩ => ⟨S_, .bf16⟩
  | .hbm, ⟨3, _⟩ => ⟨S_, .i32⟩
  | .hbm, ⟨4, _⟩ => ⟨S512, .bf16⟩
  | .hbm, ⟨5, _⟩ => ⟨S512, .i32⟩
  | .hbm, ⟨6, _⟩ => ⟨S512, .f32⟩
  | .hbm, ⟨7, _⟩ => ⟨S_, .bf16⟩
  | .hbm, ⟨8, _⟩ => ⟨S512, .bf16⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S2x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Loops.lean ====
/-
# The kernel's body as four loops

The kernel is unrolled in the program text: 31 signals, 31 remote copies and 31 pairs of waits, each written out.
This module writes the same operations as recursions over lists of exchange numbers, and shows that the printed body
is that program.

An EXCHANGE is a number `s : Fin 31`.  In exchange `s` a device copies its own slot 0 of the communication buffer into
slot `s + 1` of another device: the one `order s` places further around the mesh.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.ArgmaxProof

open Cert.KernelIdeal Cert.KernelIdeal.Gen
open Idealize.ShloMosaic Idealize.ShloMosaic.TcCoe
open Idealize.SL Idealize.SL.Sem

variable {F : FTy → Type} [FloatOps F]

/-! ## Buffers and semaphores -/

/-- The staging buffers of the argument block and of the result, and the communication buffer of 32 slots. -/
abbrev xM : Memref sig .tc .vmem S512x512 .bf16 := Memref.whole cc0_stg0_0
abbrev oM : Memref sig .tc .vmem S2x512 .f32 := Memref.whole cc0_stg1_0
abbrev cM : Memref sig .tc .vmem S32x2x512 .f32 := Memref.whole cc0_scratch0

theorem slot_inb (s : Fin 32) : ∀ a, (![s.val, 0, 0] : Fin 3 → Nat) a + S1x2x512.size a ≤ S32x2x512.size a := by
  revert s; decide
theorem sem_inb (s : Fin 32) : ∀ a, (![s.val] : Fin 1 → Nat) a + S1.size a ≤ S32.size a := by
  revert s; decide

/-- Slot `s` of the communication buffer, as the kernel's copies name it. -/
abbrev slot (s : Fin 32) : Memref sig .tc .vmem S2x512 .f32 :=
  (cM.slice (Rect.unit (s := S32x2x512) ![s.val, 0, 0] S1x2x512.size (slot_inb s)) (fun _ => rfl)).squeeze S2x512 squeezes_S1x2x512_S2x512

/-- The send and the receive semaphore of slot `s`, and the barrier semaphore. -/
abbrev sendSem (s : Fin 32) : DmaSem sig :=
  ((cc0_scratch1.slice (Rect.unit (s := S32) ![s.val] S1.size (sem_inb s))).squeeze S_ squeezes_S1_S_).sem
abbrev recvSem (s : Fin 32) : DmaSem sig :=
  ((cc0_scratch2.slice (Rect.unit (s := S32) ![s.val] S1.size (sem_inb s))).squeeze S_ squeezes_S1_S_).sem
abbrev barS : Sem sig := (SemArray.scalar (sig.barrier 0 rfl) : Sems sig S_).sem

/-! ## The devices the operations name -/

/-- How many places further around the mesh exchange `s` copies. -/
def orderL : List ℕ :=
  [16, 8, 24, 7, 25, 4, 28, 9, 23, 6, 26, 12, 20, 1, 31, 3, 29, 5, 15, 17, 27, 11, 21, 13, 19, 10, 22, 2, 30, 14, 18]
def order (s : Fin 31) : ℕ := orderL.getD s.val 0

/-- The device the `i`-th addressed operation of the text names, on device `c`: 31 signals, then 31 copies. -/
def devTab (c : Dev nD) : ℕ → Dev nD
  | 1 => ⟨k0_dev1 c, k0_dev1_lt c⟩
  | 2 => ⟨k0_dev2 c, k0_dev2_lt c⟩
  | 3 => ⟨k0_dev3 c, k0_dev3_lt c⟩
  | 4 => ⟨k0_dev4 c, k0_dev4_lt c⟩
  | 5 => ⟨k0_dev5 c, k0_dev5_lt c⟩
  | 6 => ⟨k0_dev6 c, k0_dev6_lt c⟩
  | 7 => ⟨k0_dev7 c, k0_dev7_lt c⟩
  | 8 => ⟨k0_dev8 c, k0_dev8_lt c⟩
  | 9 => ⟨k0_dev9 c, k0_dev9_lt c⟩
  | 10 => ⟨k0_dev10 c, k0_dev10_lt c⟩
  | 11 => ⟨k0_dev11 c, k0_dev11_lt c⟩
  | 12 => ⟨k0_dev12 c, k0_dev12_lt c⟩
  | 13 => ⟨k0_dev13 c, k0_dev13_lt c⟩
  | 14 => ⟨k0_dev14 c, k0_dev14_lt c⟩
  | 15 => ⟨k0_dev15 c, k0_dev15_lt c⟩
  | 16 => ⟨k0_dev16 c, k0_dev16_lt c⟩
  | 17 => ⟨k0_dev17 c, k0_dev17_lt c⟩
  | 18 => ⟨k0_dev18 c, k0_dev18_lt c⟩
  | 19 => ⟨k0_dev19 c, k0_dev19_lt c⟩
  | 20 => ⟨k0_dev20 c, k0_dev20_lt c⟩
  | 21 => ⟨k0_dev21 c, k0_dev21_lt c⟩
  | 22 => ⟨k0_dev22 c, k0_dev22_lt c⟩
  | 23 => ⟨k0_dev23 c, k0_dev23_lt c⟩
  | 24 => ⟨k0_dev24 c, k0_dev24_lt c⟩
  | 25 => ⟨k0_dev25 c, k0_dev25_lt c⟩
  | 26 => ⟨k0_dev26 c, k0_dev26_lt c⟩
  | 27 => ⟨k0_dev27 c, k0_dev27_lt c⟩
  | 28 => ⟨k0_dev28 c, k0_dev28_lt c⟩
  | 29 => ⟨k0_dev29 c, k0_dev29_lt c⟩
  | 30 => ⟨k0_dev30 c, k0_dev30_lt c⟩
  | 31 => ⟨k0_dev31 c, k0_dev31_lt c⟩
  | 32 => ⟨k0_dev32 c, k0_dev32_lt c⟩
  | 33 => ⟨k0_dev33 c, k0_dev33_lt c⟩
  | 34 => ⟨k0_dev34 c, k0_dev34_lt c⟩
  | 35 => ⟨k0_dev35 c, k0_dev35_lt c⟩
  | 36 => ⟨k0_dev36 c, k0_dev36_lt c⟩
  | 37 => ⟨k0_dev37 c, k0_dev37_lt c⟩
  | 38 => ⟨k0_dev38 c, k0_dev38_lt c⟩
  | 39 => ⟨k0_dev39 c, k0_dev39_lt c⟩
  | 40 => ⟨k0_dev40 c, k0_dev40_lt c⟩
  | 41 => ⟨k0_dev41 c, k0_dev41_lt c⟩
  | 42 => ⟨k0_dev42 c, k0_dev42_lt c⟩
  | 43 => ⟨k0_dev43 c, k0_dev43_lt c⟩
  | 44 => ⟨k0_dev44 c, k0_dev44_lt c⟩
  | 45 => ⟨k0_dev45 c, k0_dev45_lt c⟩
  | 46 => ⟨k0_dev46 c, k0_dev46_lt c⟩
  | 47 => ⟨k0_dev47 c, k0_dev47_lt c⟩
  | 48 => ⟨k0_dev48 c, k0_dev48_lt c⟩
  | 49 => ⟨k0_dev49 c, k0_dev49_lt c⟩
  | 50 => ⟨k0_dev50 c, k0_dev50_lt c⟩
  | 51 => ⟨k0_dev51 c, k0_dev51_lt c⟩
  | 52 => ⟨k0_dev52 c, k0_dev52_lt c⟩
  | 53 => ⟨k0_dev53 c, k0_dev53_lt c⟩
  | 54 => ⟨k0_dev54 c, k0_dev54_lt c⟩
  | 55 => ⟨k0_dev55 c, k0_dev55_lt c⟩
  | 56 => ⟨k0_dev56 c, k0_dev56_lt c⟩
  | 57 => ⟨k0_dev57 c, k0_dev57_lt c⟩
  | 58 => ⟨k0_dev58 c, k0_dev58_lt c⟩
  | 59 => ⟨k0_dev59 c, k0_dev59_lt c⟩
  | 60 => ⟨k0_dev60 c, k0_dev60_lt c⟩
  | 61 => ⟨k0_dev61 c, k0_dev61_lt c⟩
  | 62 => ⟨k0_dev62 c, k0_dev62_lt c⟩
  | _ => c

/-- The device that exchange `s` brings to `c`: whose copy lands in `c`'s slot. -/
def src (c : Dev nD) (s : Fin 31) : Dev nD := ⟨(c.val + (32 - order s)) % 32, Nat.mod_lt _ (by decide)⟩
/-- The device that exchange `s` copies to. -/
def tgt (c : Dev nD) (s : Fin 31) : Dev nD := ⟨(c.val + order s) % 32, Nat.mod_lt _ (by decide)⟩

theorem src_tgt (c : Dev nD) (s : Fin 31) : src (tgt c s) s = c := by revert c s; decide +kernel
theorem tgt_src (c : Dev nD) (s : Fin 31) : tgt (src c s) s = c := by revert c s; decide +kernel
theorem src_inj (c : Dev nD) : Function.Injective (src c) := by revert c; decide +kernel
theorem src_ne (c : Dev nD) (s : Fin 31) : src c s ≠ c := by revert c s; decide +kernel
/-- A device signals, as exchange `s`, the device whose copy it will receive there. -/
theorem sig_dev (c : Dev nD) (s : Fin 31) : devTab c (32 - order s) = src c s := by revert c s; decide +kernel
theorem send_dev (c : Dev nD) (s : Fin 31) : devTab c (32 + s.val) = tgt c s := by revert c s; decide +kernel

/-! ## The loops -/

abbrev 𝔼 (F : FTy → Type) := TpuEff nD τ sig (Elt F) Λ₀ .tc

/-- The signals: one unit to the barrier of each device of the list. -/
def sigK (c : Dev nD) {α : Type} : List (Fin 31) → Prog (𝔼 F) α → Prog (𝔼 F) α
  | [], k => k
  | s :: l, k => .op (.semSignal (Dev.tc (devTab c (32 - order s))) barS 1) fun _ => sigK c l k

/-- The copies of slot 0. -/
def sendK (c : Dev nD) {α : Type} : List (Fin 31) → Prog (𝔼 F) α → Prog (𝔼 F) α
  | [], k => k
  | s :: l, k => .op (.enqueueDma (slot 0) (.remote (Dev.tc (devTab c (32 + s.val))) (slot s.succ) (.dma (sendSem s.succ))) (.dma (recvSem s.succ))
      ((View.wordExact_bits rfl).reshape _ _) ((View.wordExact_bits rfl).reshape _ _) ⟨⟨rfl, Or.inl rfl⟩, trivial⟩) fun _ => sendK c l k

/-- The waits: for the departure of the own copy, then for the arrival of the other one. -/
def waitK {α : Type} : List (Fin 31) → Prog (𝔼 F) α → Prog (𝔼 F) α
  | [], k => k
  | s :: l, k => .op (.waitDma2 (sendSem s.succ) (slot s.succ) (slot 0) ((View.wordExact_bits rfl).reshape _ _) ((View.wordExact_bits rfl).reshape _ _)) fun _ =>
      .op (.waitDma2 (recvSem s.succ) (slot 0) (slot s.succ) ((View.wordExact_bits rfl).reshape _ _) ((View.wordExact_bits rfl).reshape _ _)) fun _ => waitK l k

/-- The exchanges in the order of the signals (places 1, 2, … , 31 further), and in the order of the copies. -/
def sigL : List (Fin 31) := [14, 28, 16, 6, 20, 10, 4, 2, 8, 26, 22, 12, 24, 30, 19, 0, 18, 29, 23, 11, 21, 25, 7, 1, 3, 9, 17, 5, 15, 27, 13]
def sendL : List (Fin 31) := [0, 1, 2, 3, 4, 5, 6, 7, 8, 9, 10, 11, 12, 13, 14, 15, 16, 17, 18, 19, 20, 21, 22, 23, 24, 25, 26, 27, 28, 29, 30]
def waitL0 : List (Fin 31) := [0, 1, 2, 3, 4, 5, 6]
def waitL1 : List (Fin 31) := [7, 8, 9, 10, 11, 12, 13, 14]
def waitL2 : List (Fin 31) := [15, 16, 17, 18, 19, 20, 21, 22]
def waitL3 : List (Fin 31) := [23, 24, 25, 26, 27, 28, 29, 30]

theorem sigL_univ : (Finset.univ : Finset (Fin 31)) = sigL.toFinset := by decide
theorem sigL_nodup : sigL.Nodup := by decide
theorem sendL_univ : (Finset.univ : Finset (Fin 31)) = sendL.toFinset := by decide
theorem sendL_nodup : sendL.Nodup := by decide

/-- The device's number as the kernel computes it. -/
abbrev pos (c : Dev nD) : BitVec 32 := Scalar.remsi (Scalar.divsi (Dev.word c) 1#32) 32#32

abbrev rx : Rect S512x512 := Rect.unit (s := S512x512) ![0, 0] S512x512.size inb_S512x512_S512x512_0_0
abbrev r00 : Rect S32x2x512 := Rect.unit (s := S32x2x512) ![0, 0, 0] S1x1x512.size inb_S32x2x512_S1x1x512_0_0_0
abbrev r01 : Rect S32x2x512 := Rect.unit (s := S32x2x512) ![0, 1, 0] S1x1x512.size inb_S32x2x512_S1x1x512_0_1_0
abbrev q00 : Rect S32x2x512 := Rect.unit (s := S32x2x512) ![0, 0, 0] S8x1x512.size inb_S32x2x512_S8x1x512_0_0_0
abbrev q01 : Rect S32x2x512 := Rect.unit (s := S32x2x512) ![0, 1, 0] S8x1x512.size inb_S32x2x512_S8x1x512_0_1_0
abbrev q10 : Rect S32x2x512 := Rect.unit (s := S32x2x512) ![8, 0, 0] S8x1x512.size inb_S32x2x512_S8x1x512_8_0_0
abbrev q11 : Rect S32x2x512 := Rect.unit (s := S32x2x512) ![8, 1, 0] S8x1x512.size inb_S32x2x512_S8x1x512_8_1_0
abbrev q20 : Rect S32x2x512 := Rect.unit (s := S32x2x512) ![16, 0, 0] S8x1x512.size inb_S32x2x512_S8x1x512_16_0_0
abbrev q21 : Rect S32x2x512 := Rect.unit (s := S32x2x512) ![16, 1, 0] S8x1x512.size inb_S32x2x512_S8x1x512_16_1_0
abbrev q30 : Rect S32x2x512 := Rect.unit (s := S32x2x512) ![24, 0, 0] S8x1x512.size inb_S32x2x512_S8x1x512_24_0_0
abbrev q31 : Rect S32x2x512 := Rect.unit (s := S32x2x512) ![24, 1, 0] S8x1x512.size inb_S32x2x512_S8x1x512_24_1_0
abbrev o0 : Rect S2x512 := Rect.unit (s := S2x512) ![0, 0] S1x512.size inb_S2x512_S1x512_0_0
abbrev o1 : Rect S2x512 := Rect.unit (s := S2x512) ![1, 0] S1x512.size inb_S2x512_S1x512_1_0

/-- The body's load of eight slots of row `a` of the communication buffer. -/
abbrev loadC {α : Type} (r : Rect S32x2x512) (h : 0 < r.shape.numel) (k : (r.shape.Idx → Elt F .f32) → Prog (𝔼 F) α) : Prog (𝔼 F) α :=
  .op (.load cM r.toLoadRect (View.loadsAt_vmem h)) k

/-- The end of the body: the two rows of the result stored over whatever the buffer holds. -/
def storeK (v w : FVec F S512 .f32) : Prog (𝔼 F) PUnit :=
  .op (.load oM o0.toLoadRect (View.loadsAt_vmem h_S1x512)) fun _ =>
  .op (.store oM o0 (k0_pay1 v) Finset.univ (View.stores_vmem_bits_univ h_S1x512 rfl) (.inl rfl)) fun _ =>
  .op (.load oM o1.toLoadRect (View.loadsAt_vmem h_S1x512)) fun _ =>
  .op (.store oM o1 (k0_pay2 w) Finset.univ (View.stores_vmem_bits_univ h_S1x512 rfl) (.inl rfl)) fun _ => .ret ⟨⟩

/-- The four chunks: wait for eight slots (seven in the first, slot 0 being the device's own), load them, combine. -/
def chunksK : Prog (𝔼 F) PUnit :=
  waitK waitL0 <| loadC q00 h_S8x1x512 fun a0 => loadC q01 h_S8x1x512 fun b0 =>
  waitK waitL1 <| loadC q10 h_S8x1x512 fun a1 => loadC q11 h_S8x1x512 fun b1 =>
  waitK waitL2 <| loadC q20 h_S8x1x512 fun a2 => loadC q21 h_S8x1x512 fun b2 =>
  waitK waitL3 <| loadC q30 h_S8x1x512 fun a3 => loadC q31 h_S8x1x512 fun b3 =>
    let v := k0_pay9 a0
    let w := k0_pay10 a0 b0
    let v' := k0_pay15 v w a1 b1
    let w' := k0_pay16 v w a1 b1
    let v'' := k0_pay21 v' w' a2 b2
    let w'' := k0_pay22 v' w' a2 b2
    storeK (k0_pay30 v'' (k0_pay24 a3) (k0_pay26 v'' a3) (k0_pay27 v'' a3) (k0_pay28 w'' a3 b3))
      (k0_pay31 w'' (k0_pay25 a3 b3) (k0_pay26 v'' a3) (k0_pay27 v'' a3) (k0_pay28 w'' a3 b3))

/-- The whole body. -/
def bodyK : Prog (𝔼 F) PUnit :=
  .op .deviceId fun c =>
  sigK c sigL <|
  .op (.load xM rx.toLoadRect (View.loadsAt_vmem h_S512x512)) fun x =>
  .op (.load cM r00.toLoadRect (View.loadsAt_vmem h_S1x1x512)) fun _ =>
  .op (.store cM r00 (k0_pay6 x) Finset.univ (View.stores_vmem_bits_univ h_S1x1x512 rfl) (.inl rfl)) fun _ =>
  .op (.load cM r01.toLoadRect (View.loadsAt_vmem h_S1x1x512)) fun _ =>
  .op (.store cM r01 (k0_pay7 (k0_pay5 (pos c) x)) Finset.univ (View.stores_vmem_bits_univ h_S1x1x512 rfl) (.inl rfl)) fun _ =>
  .op (.semWait barS 31) fun _ =>
  sendK c sendL chunksK

set_option maxRecDepth 100000 in
set_option maxHeartbeats 1000000 in
/-- The printed body is the four loops. -/
theorem body_eq : cc0_body (F := F) xM (Memref.isWhole_whole _) oM (Memref.isWhole_whole _) cM (Memref.isWhole_whole _) cc0_scratch1 cc0_scratch2 = bodyK := rfl

end Cert.ArgmaxProof

end
-- ==== Proof.Protocol.lean ====
/-
# The protocol of the exchanges

Every device owns its communication buffer of 32 slots and gives slot `s + 1` away, for exchange `s`, to the device that
will copy into it; the right travels with the signal to that device's barrier.  A device past its wait for 31 signals
owns the 31 slots it copies to.  Its 31 copies read slot 0 at the same time, each holding a share of it; the kept share
lets the device read slot 0 meanwhile.  A send cell gives the share back, a receive cell gives the slot back with the
sender's row.
-/
module

public import proofs.«01_k».proof.Proof.Loops
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.ValueIdxCore
public import Idealize.ShloMosaic.Lib.Pipeline.ValueKit.Geometry

@[expose] public section

noncomputable section

namespace Cert.ArgmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and the exchanges', whose duties are the exchange numbers. -/
abbrev UX : Type := URounds (GSem nD τ sig) (Fin 31)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Cells -/

abbrev barCell (c : Dev nD) : GSem nD τ sig := ((c : Thread nD τ), .reg barS)
abbrev sendCell (c : Dev nD) (s : Fin 31) : GSem nD τ sig := ((c : Thread nD τ), .dma (sendSem s.succ))
abbrev recvCell (c : Dev nD) (s : Fin 31) : GSem nD τ sig := ((c : Thread nD τ), .dma (recvSem s.succ))

/-- Which exchange a transfer semaphore belongs to, and on which side (`true`: receiving). -/
def dec (q : DmaSem sig) : Option (Bool × Fin 31) :=
  if h : 3 ≤ q.val ∧ q.val < 34 then some (false, ⟨q.val - 3, by omega⟩)
  else if h : 35 ≤ q.val ∧ q.val < 66 then some (true, ⟨q.val - 35, by omega⟩) else none

theorem dec_send (s : Fin 31) : dec (sendSem s.succ) = some (false, s) := by revert s; decide +kernel
theorem dec_recv (s : Fin 31) : dec (recvSem s.succ) = some (true, s) := by revert s; decide +kernel
theorem recv_inj {s s' : Fin 31} (h : recvSem s.succ = recvSem s'.succ) : s = s' := by
  have := congrArg dec h; rw [dec_recv, dec_recv] at this; exact (Prod.mk.inj (Option.some.inj this)).2

/-- The credit of one copy: what 2 × 512 words count on a transfer semaphore. -/
abbrev N : ℕ := (slot 0).view.dmaCredit
theorem N_pos : 0 < N := View.dmaCredit_pos _ (by decide)
theorem N_slot (s : Fin 32) : (slot s).view.dmaCredit = N := rfl

/-! ## Contents -/

/-- Device `c`'s block of the argument, as the staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- That block as the body loads it. -/
def xin (c : Dev nD) : S512x512.Idx → Elt F .bf16 := (xM.view.readAt (Elt F) rx.toLoadRect (xstg m ρ c))

/-- The location of device `c`'s communication buffer, and the elements of its slot `s`. -/
abbrev cLoc (c : Dev nD) : Loc nD τ sig := (c : Thread nD τ).loc cc0_scratch0
abbrev slotOf (i : S32x2x512.Idx) : Fin 32 := i 0
def sset (s : Fin 32) : Finset S32x2x512.Idx := Finset.univ.filter fun i => slotOf i = s
theorem mem_sset {s : Fin 32} {i : S32x2x512.Idx} : i ∈ sset s ↔ slotOf i = s := by
  unfold sset; rw [Finset.mem_filter, and_iff_right (Finset.mem_univ _)]

/-- Column `j` of an index of the communication buffer. -/
abbrev colIx (i : S32x2x512.Idx) : S1x1x512.Idx := ValueIdx.ix3 (0 : Fin 1) (0 : Fin 1) (i 2)

/-- What device `d` writes to its own slot and sends: row 0 its block's column maxima, row 1 the row numbers. -/
def own (d : Dev nD) (i : S32x2x512.Idx) : Elt F .f32 :=
  if (i 1).val = 0 then k0_pay6 (xin m ρ d) (colIx i) else k0_pay7 (k0_pay5 (pos d) (xin m ρ d)) (colIx i)

/-- Whose rows slot `s` of device `c` holds in the end. -/
def owner (c : Dev nD) (s : Fin 32) : Dev nD := Fin.cases (motive := fun _ => Dev nD) c (src c) s

/-- The communication buffer of device `c` with every slot arrived. -/
def comm (c : Dev nD) : Buf (Elt F) (cLoc c) := fun i => own m ρ (owner c (slotOf i)) i

/-- Slot `s` of device `c`, held at share `q`, with contents `f`. -/
def sPts (c : Dev nD) (s : Fin 32) (q : PosShare TreeShare) (f : Buf (Elt F) (cLoc c)) : sProp 𝕄 := cLoc c ↦[sset s]{q} f

omit [FloatOps F] in
instance sPts_storable (c : Dev nD) (s : Fin 32) (q : PosShare TreeShare) (f : Buf (Elt F) (cLoc c)) : BI.Storable (upEmb : UEmb _ 𝕄) (sPts c s q f) := by unfold sPts; infer_instance

/-- The share of slot 0 that copy `s` holds while it flies; the first of the 32 leaves stays with the device. -/
def leafS (b : Fin 32) : PosShare TreeShare := ShareLeaves.leaf 5 fullShare (Fin.cast (by norm_num : 32 = 2 ^ 5) b)

/-! ## Geometry of the slots -/

theorem slot_set (s : Fin 32) : (slot s).view.set = sset s := by
  rw [Memref.set_view_squeeze]
  show ((View.whole cc0_scratch0).slice _).set = _
  rw [View.set_slice_whole]
  ext i
  rw [Rect.mem_set_unit, mem_sset]
  constructor
  · intro h
    have h0 : s.val ≤ (i 0).val ∧ (i 0).val < s.val + 1 := h 0
    exact Fin.ext (show (i 0).val = s.val by omega)
  · intro h a
    have h' : (i 0).val = s.val := congrArg Fin.val h
    have h1 : (i 1).val < 2 := (i 1).isLt
    have h2 : (i 2).val < 512 := (i 2).isLt
    fin_cases a
    · simp [h']
    · simpa using h1
    · simpa using h2

/-- Slots differ in the first coordinate only. -/
theorem slot_emb (s : Fin 32) (j : S2x512.Idx) :
    slotOf ((slot s).view.emb j) = s ∧ (slot s).view.emb j 1 = (slot 0).view.emb j 1 ∧ (slot s).view.emb j 2 = (slot 0).view.emb j 2 := by
  have h (s : Fin 32) (a : Fin 3) : ((slot s).view.emb j a).val
      = (![s.val, 0, 0] : Fin 3 → ℕ) a + (Shape.reshapeEquiv squeezes_S1x2x512_S2x512.numel_eq j a).val :=
    ValueKit.rect_emb_unit_val (s := S32x2x512) _ _ (slot_inb s) _ a
  refine ⟨?_, Fin.ext ((h s 1).trans (h 0 1).symm), Fin.ext ((h s 2).trans (h 0 2).symm)⟩
  have hz : (Shape.reshapeEquiv squeezes_S1x2x512_S2x512.numel_eq j (0 : Fin 3)).val < 1 := (Shape.reshapeEquiv squeezes_S1x2x512_S2x512.numel_eq j (0 : Fin 3)).isLt
  exact Fin.ext ((h s 0).trans (by rw [Nat.lt_one_iff.mp hz]; rfl))

omit [FloatOps F] in
theorem sset_disjoint {s s' : Fin 32} (h : s ≠ s') : Disjoint (sset s) (sset s') :=
  Finset.disjoint_left.mpr fun i hi hi' => h ((mem_sset.mp hi).symm.trans (mem_sset.mp hi'))

theorem sset_cover : (Finset.univ : Finset (Fin 32)).biUnion sset = Finset.univ := by
  refine Finset.eq_univ_iff_forall.mpr fun i => Finset.mem_biUnion.mpr ⟨slotOf i, Finset.mem_univ _, mem_sset.mpr rfl⟩

/-- The elements of a rectangle of slots `lo … lo + n - 1`. -/
theorem rect_sub (lo n a : ℕ) (sz : Fin 3 → ℕ) (hsz : sz 0 = n) (inb) (S : Finset (Fin 32)) (hS : ∀ s : Fin 32, lo ≤ s.val → s.val < lo + n → s ∈ S) :
    cM.view.setOn (Rect.unit (s := S32x2x512) ![lo, a, 0] sz inb).toLoadRect.set ⊆ S.biUnion sset := by
  intro i hi
  rw [View.setOn, Finset.mem_map] at hi
  obtain ⟨x, hx, rfl⟩ := hi
  have hx := Rect.mem_set_unit.mp (show x ∈ (Rect.unit (s := S32x2x512) ![lo, a, 0] sz inb).set from hx)
  have h0 := hx 0
  simp [hsz] at h0
  rw [Finset.mem_biUnion]
  exact ⟨x 0, hS _ h0.1 h0.2, mem_sset.mpr rfl⟩

/-- A copy's landing: slot 0's rows of device `c`, written to slot `s + 1` of the device it copies to. -/
theorem landed (c : Dev nD) (s : Fin 31) (fd : Buf (Elt F) (cLoc (tgt c s))) :
    ∀ i ∈ sset s.succ, (slot s.succ).view.write (Elt F) fd ((slot 0).view.read (Elt F) (comm m ρ c)) Finset.univ i = comm m ρ (tgt c s) i := by
  intro i hi
  rw [← slot_set] at hi
  obtain ⟨j, -, rfl⟩ := Finset.mem_map.mp hi
  rw [View.write_emb_of_mem _ _ (Finset.mem_univ _), View.read_apply, cast_cast, cast_eq]
  obtain ⟨h0, h1, h2⟩ := slot_emb s.succ j
  obtain ⟨k0, -, -⟩ := slot_emb 0 j
  show own m ρ (owner c _) _ = own m ρ (owner (tgt c s) _) _
  rw [h0, k0]
  show own m ρ c _ = own m ρ (src (tgt c s) s) _
  rw [src_tgt]
  unfold own colIx
  rw [h1, h2]

/-- The two stores of the own rows, over anything. -/
theorem stored (c : Dev nD) (f : Buf (Elt F) (cLoc c)) :
    ∀ i ∈ sset 0, (cM.access r01).write (Elt F) ((cM.access r00).write (Elt F) f (k0_pay6 (xin m ρ c)) Finset.univ)
      (k0_pay7 (k0_pay5 (pos c) (xin m ρ c))) Finset.univ i = comm m ρ c i := by
  intro i hi
  have hi0 : slotOf i = 0 := mem_sset.mp hi
  have hv0 : (i 0).val = 0 := congrArg Fin.val hi0
  have e0 : (i 1).val = 0 → (cM.access r00).emb (colIx i) = i := fun h => by
    refine funext fun a => Fin.ext ((ValueKit.rect_emb_unit_val (s := S32x2x512) ![0, 0, 0] S1x1x512.size inb_S32x2x512_S1x1x512_0_0_0 (colIx i) a).trans ?_)
    fin_cases a
    · simp [hv0]
    · simp [h]
    · simp
  have e1 : (i 1).val = 1 → (cM.access r01).emb (colIx i) = i := fun h => by
    refine funext fun a => Fin.ext ((ValueKit.rect_emb_unit_val (s := S32x2x512) ![0, 1, 0] S1x1x512.size inb_S32x2x512_S1x1x512_0_1_0 (colIx i) a).trans ?_)
    fin_cases a
    · simp [hv0]
    · simp [h]
    · simp
  have hlt := (i 1).isLt
  have hs : S32x2x512.size 1 = 2 := rfl
  unfold comm own
  rw [hi0]
  rcases (show (i 1).val = 0 ∨ (i 1).val = 1 by omega) with h | h
  · rw [if_pos h, View.write_of_not_mem]
    · conv_lhs => rw [← e0 h]
      rw [View.write_emb_of_mem _ _ (Finset.mem_univ _)]
      rfl
    · intro hm
      obtain ⟨j, -, hj⟩ := Finset.mem_map.mp hm
      have := (ValueKit.rect_emb_unit_val (s := S32x2x512) ![0, 1, 0] S1x1x512.size inb_S32x2x512_S1x1x512_0_1_0 j 1)
      rw [show (r01.emb j : S32x2x512.Idx) = i from hj] at this
      simp at this
      omega
  · rw [if_neg (by omega)]
    conv_lhs => rw [← e1 h]
    rw [View.write_emb_of_mem _ _ (Finset.mem_univ _)]
    rfl

/-! ## The schedule -/

/-- What exchange `s`'s signal hands device `c`: the slot it will copy into. -/
def barPay (c : Dev nD) (s : Fin 31) : sProp 𝕄 := iprop(∃ f, sPts (tgt c s) s.succ fullShare f)
def recvPay (c : Dev nD) (s : Fin 31) : sProp 𝕄 := sPts c s.succ fullShare (comm m ρ c)
def sendPay (c : Dev nD) (s : Fin 31) : sProp 𝕄 := sPts c 0 (leafS s.succ) (comm m ρ c)

/-- What a transfer semaphore of device `c` pays. -/
def dmaPay (c : Dev nD) : Option (Bool × Fin 31) → sProp 𝕄
  | some (false, s) => sendPay m ρ c s
  | some (true, s) => recvPay m ρ c s
  | none => iprop(emp)

/-- The duties of a semaphore in round 0. -/
def dutiesOf : SemLoc sig → Finset (Fin 31)
  | .reg _ => Finset.univ
  | .dma q => if (dec q).isSome then {0} else ∅

/-- One round: a barrier cell has the 31 exchanges for duties, of one unit each; a transfer cell one duty, its credit. -/
def xRd : Rounds.Schedule (GSem nD τ sig) (Fin 31) 𝕄 where
  duties g r := if r = 0 ∧ g.1.2 = .tc then dutiesOf g.2 else ∅
  unitless _ := False
  amount g _ _ := match g.2 with | .reg _ => 1 | .dma _ => N
  payload g _ d := match g.2 with | .reg _ => barPay g.1.1 d | .dma q => dmaPay m ρ g.1.1 (dec q)
  amount_pos g _ _ _ := by
    rcases g with ⟨t, b | q⟩
    · exact Nat.one_pos
    · exact N_pos

instance xRd_payload_storable (g : GSem nD τ sig) (r : ℕ) (d : Fin 31) :
    BI.Storable (upEmb : UEmb _ 𝕄) ((xRd (F := F) m ρ).payload g r d) := by
  rcases g with ⟨t, b | q⟩
  · show BI.Storable upEmb (barPay t.1 d); unfold barPay; infer_instance
  · show BI.Storable upEmb (dmaPay m ρ t.1 (dec q))
    rcases dec q with _ | ⟨_ | _, s⟩
    · unfold dmaPay; infer_instance
    · show BI.Storable upEmb (sendPay m ρ t.1 s); unfold sendPay; infer_instance
    · show BI.Storable upEmb (recvPay m ρ t.1 s); unfold recvPay; infer_instance

section Sched
variable (c : Dev nD) (s : Fin 31)

theorem duties_bar : (xRd (F := F) m ρ).duties (barCell c) 0 = Finset.univ := by
  dsimp only [xRd]; rw [if_pos ⟨rfl, rfl⟩]; rfl
theorem duties_send : (xRd (F := F) m ρ).duties (sendCell c s) 0 = {0} := by
  dsimp only [xRd]; rw [if_pos ⟨rfl, rfl⟩]
  show (if (dec (sendSem s.succ)).isSome then _ else _) = _
  rw [dec_send]; rfl
theorem duties_recv : (xRd (F := F) m ρ).duties (recvCell c s) 0 = {0} := by
  dsimp only [xRd]; rw [if_pos ⟨rfl, rfl⟩]
  show (if (dec (recvSem s.succ)).isSome then _ else _) = _
  rw [dec_recv]; rfl
theorem duties_later (g : GSem nD τ sig) : ∀ r, 1 ≤ r → (xRd (F := F) m ρ).duties g r = ∅ :=
  fun r hr => by dsimp only [xRd]; rw [if_neg fun h => by omega]

theorem amount_bar (d : Fin 31) : (xRd (F := F) m ρ).amount (barCell c) 0 d = 1 := rfl
theorem amount_send (d : Fin 31) : (xRd (F := F) m ρ).amount (sendCell c s) 0 d = N := rfl
theorem amount_recv (d : Fin 31) : (xRd (F := F) m ρ).amount (recvCell c s) 0 d = N := rfl

theorem expect_bar : (xRd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (xRd (F := F) m ρ).expect (sendCell c s) 0 = N := by
  unfold Schedule.expect Schedule.amountOf; rw [duties_send, Finset.sum_singleton, amount_send]
theorem expect_recv : (xRd (F := F) m ρ).expect (recvCell c s) 0 = N := by
  unfold Schedule.expect Schedule.amountOf; rw [duties_recv, Finset.sum_singleton, amount_recv]

theorem payload_bar (d : Fin 31) : (xRd (F := F) m ρ).payload (barCell c) 0 d = barPay c d := rfl
theorem payload_send (d : Fin 31) : (xRd (F := F) m ρ).payload (sendCell c s) 0 d = sendPay m ρ c s := by
  show dmaPay m ρ c (dec (sendSem s.succ)) = _; rw [dec_send]; rfl
theorem payload_recv (d : Fin 31) : (xRd (F := F) m ρ).payload (recvCell c s) 0 d = recvPay m ρ c s := by
  show dmaPay m ρ c (dec (recvSem s.succ)) = _; rw [dec_recv]; rfl

/-- What is left of each round with no duty taken: the whole of it. -/
theorem rest_bar : bigSep ((xRd (F := F) m ρ).duties (barCell c) 0 \ ∅) (fun d => (xRd (F := F) m ρ).payload (barCell c) 0 d)
    = bigSep Finset.univ (barPay (F := F) c) := by
  rw [Finset.sdiff_empty, duties_bar]; rfl
theorem rest_send : bigSep ((xRd (F := F) m ρ).duties (sendCell c s) 0 \ ∅) (fun d => (xRd (F := F) m ρ).payload (sendCell c s) 0 d) = sendPay m ρ c s := by
  rw [Finset.sdiff_empty, duties_send, bigSep_singleton, payload_send]
theorem rest_recv : bigSep ((xRd (F := F) m ρ).duties (recvCell c s) 0 \ ∅) (fun d => (xRd (F := F) m ρ).payload (recvCell c s) 0 d) = recvPay m ρ c s := by
  rw [Finset.sdiff_empty, duties_recv, bigSep_singleton, payload_recv]

end Sched

/-! ## What each device owes at launch; the levels -/

/-- The credit still owed to receive cells when the copies `l` are to come, and to barriers when the signals `l` are. -/
def owedR (c : Dev nD) (l : List (Fin 31)) : CellTallies nD τ sig Unit := (l.map fun s => tallyAt (recvCell (tgt c s) s) () N).sum
def owedB (c : Dev nD) (l : List (Fin 31)) : CellTallies nD τ sig Unit := (l.map fun s => tallyAt (barCell (src c s)) () 1).sum
def O₀ (c : Dev nD) : CellTallies nD τ sig Unit := owedR c sendL + owedB c sigL

theorem owedR_cons (c : Dev nD) (s : Fin 31) (l) : owedR c (s :: l) = owedR c l + tallyAt (recvCell (tgt c s) s) () N := by
  unfold owedR; rw [List.map_cons, List.sum_cons, add_comm]
theorem owedB_cons (c : Dev nD) (s : Fin 31) (l) : owedB c (s :: l) = owedB c l + tallyAt (barCell (src c s)) () 1 := by
  unfold owedB; rw [List.map_cons, List.sum_cons, add_comm]

def L (g : GSem nD τ sig) : Finset Unit := if g.1.2 = .tc then {()} else ∅
/-- Barriers at 1, receive semaphores at 2, everything else at 0. -/
def lv (g : GSem nD τ sig) (_ : Unit) : ℕ :=
  match g.2 with | .reg _ => 1 | .dma q => match dec q with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (s : Fin 31) : lv (recvCell c s) () = 2 := by
  show (match dec (recvSem s.succ) with | some (true, _) => 2 | _ => 0) = 2; rw [dec_recv]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem owedR_pos {c : Dev nD} {l} {g : GSem nD τ sig} {u : Unit} (h : 0 < owedR c l g u) : ∃ d s, g = recvCell d s := by
  induction l with
  | nil => exact absurd h (Nat.lt_irrefl 0)
  | cons s l ih =>
    rw [owedR_cons, Pi.add_apply, Finsupp.add_apply] at h
    rcases Nat.add_pos_iff_pos_or_pos.mp h with h | h
    · exact ih h
    · exact ⟨_, _, tally_pos h⟩
theorem owedB_pos {c : Dev nD} {l} {g : GSem nD τ sig} {u : Unit} (h : 0 < owedB c l g u) : ∃ d, g = barCell d := by
  induction l with
  | nil => exact absurd h (Nat.lt_irrefl 0)
  | cons s l ih =>
    rw [owedB_cons, Pi.add_apply, Finsupp.add_apply] at h
    rcases Nat.add_pos_iff_pos_or_pos.mp h with h | h
    · exact ih h
    · exact ⟨_, tally_pos h⟩
theorem O₀_pos {c : Dev nD} {g : GSem nD τ sig} {u : Unit} (h : 0 < O₀ c g u) : (∃ d s, g = recvCell d s) ∨ ∃ d, g = barCell d := by
  unfold O₀ at h
  rw [Pi.add_apply, Finsupp.add_apply] at h
  exact (Nat.add_pos_iff_pos_or_pos.mp h).imp owedR_pos owedB_pos

omit [FloatOps F] in
/-- A wait on a semaphore at level 0 is allowed whatever of its launch debt a device still owes. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, s, rfl⟩ | ⟨d, rfl⟩ <;> exact Finset.mem_singleton_self _)
      (fun p hp => by rw [Finset.mem_singleton.mp hp]; exact hq.le)
      (fun g u hg => by
        rcases O₀_pos hg with ⟨d, s, rfl⟩ | ⟨d, rfl⟩
        · rw [show lv (recvCell d s) u = 2 from lv_recv d s]; decide
        · rw [show lv (barCell d) u = 1 from lv_bar d]; decide)
  · rw [MayWait_zero]; iintro -; iempintro

omit [FloatOps F] in
/-- At its barrier a device owes credits of receive cells only, which are above the barriers. -/
theorem mayWait_bar (c : Dev nD) : (levAts L lv : sProp 𝕄) ⊢ MayWait (c : Thread nD τ) (.reg barS) () (owedR c sendL) :=
  MayOwe.of_cut (L := L) (lev := lv) 1 (fun p hp => by rw [Finset.mem_singleton.mp hp, L_tc]; exact Finset.mem_singleton_self _)
    (fun g u hg => by obtain ⟨d, s, rfl⟩ := owedR_pos hg; exact Finset.mem_singleton_self _)
    (fun p hp => by rw [Finset.mem_singleton.mp hp]; exact (lv_bar c).le)
    (fun g u hg => by obtain ⟨d, s, rfl⟩ := owedR_pos hg; rw [show lv (recvCell d s) u = 2 from lv_recv d s]; decide)

end Cert.ArgmaxProof

end
-- ==== Proof.Body.lean ====
/-
# The body of the kernel, on one device

Each of the four loops has one lemma, by induction on its list of exchanges; `sound_body` runs them in the order of the
text on an arbitrary device.
-/
module

public import proofs.«01_k».proof.Proof.Protocol

@[expose] public section

noncomputable section

namespace Cert.ArgmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells' records -/

/-- The cells of one device: its barrier's, the 31 send cells, the 31 receive cells. -/
abbrev CK : Type := Unit ⊕ (Fin 31 ⊕ Fin 31)
abbrev csem : CK → SemLoc sig
  | .inl _ => .reg barS
  | .inr (.inl s) => .dma (sendSem s.succ)
  | .inr (.inr s) => .dma (recvSem s.succ)
abbrev kcell (ck : Dev nD × CK) : GSem nD τ sig := ((ck.1 : Thread nD τ), csem ck.2)

/-- The invariants of all cells, under the names `K` they were allocated at, and that each has begun its round. -/
def records (K : Dev nD × CK → ℕ) : sProp 𝕄 :=
  iprop((bigSep Finset.univ fun ck : Dev nD × CK => cellInv EX (xRd m ρ) (K ck) (kcell ck))
    ∗ bigSep Finset.univ fun ck : Dev nD × CK => reached EX (kcell ck) 0)

instance records_persistent (K : Dev nD × CK → ℕ) : BI.Persistent (records m ρ K) := by unfold records; infer_instance

theorem inv_at (K : Dev nD × CK → ℕ) (ck : Dev nD × CK) : records m ρ K ⊢ cellInv EX (xRd m ρ) (K ck) (kcell ck) := by
  unfold records; exact sep_elim_left.trans (bigSep_elim (Finset.mem_univ ck))
theorem reached_at (K : Dev nD × CK → ℕ) (ck : Dev nD × CK) : records m ρ K ⊢ reached EX (kcell ck) 0 := by
  unfold records; exact sep_elim_right.trans (bigSep_elim (Finset.mem_univ ck))

theorem bigSep_list_cons {Φ : Fin 31 → sProp 𝕄} {s : Fin 31} {l : List (Fin 31)} (h : (s :: l).Nodup) :
    bigSep (s :: l).toFinset Φ = iprop(Φ s ∗ bigSep l.toFinset Φ) := by
  rw [List.toFinset_cons]
  exact bigSep_insert fun hm => (List.nodup_cons.mp h).1 (List.mem_toFinset.mp hm)

/-! ## The loops -/

/-- The weakest precondition of a part of device `c`'s body. -/
abbrev wpB (c : Dev nD) (p : Prog (𝔼 F) PUnit) (Q : PUnit → sProp 𝕄) : sProp 𝕄 :=
  wp frame (wpE (defs₀ (F := F)) 𝒱₀ (c : Thread nD τ) none) Set.univ p Q

section Loops

variable (K : Dev nD × CK → ℕ) (c : Dev nD)

/-- What the signal of exchange `s` hands over: its duty of the other device's barrier, and the slot. -/
def sigRes (c : Dev nD) (s : Fin 31) : sProp 𝕄 :=
  iprop(dutyTok EX (barCell (src c s)) 0 s ∗ ∃ f, sPts c s.succ fullShare f)

/-- The signals hand each slot to the device that will fill it. -/
theorem wp_sigs {Q : PUnit → sProp 𝕄} (O : CellTallies nD τ sig Unit) (W : Waits sig Unit) (k : Prog (𝔼 F) PUnit) : ∀ l : List (Fin 31), l.Nodup →
    iprop(records m ρ K ∗ owes (c : Thread nD τ) (O + owedB c l) W ∗ bigSep l.toFinset (sigRes (F := F) c))
      ⊢ iprop((owes (c : Thread nD τ) O W -∗ wpB c k Q) -∗ wpB c (sigK c l k) Q)
  | [], _ => by
    iintro ⟨-, HO, -⟩ Hk
    iapply Hk
    have : O + owedB c [] = O := add_zero O
    rw [this]
    iexact HO
  | s :: l, hn => by
    rw [bigSep_list_cons hn]
    unfold sigK sigRes
    rw [sig_dev, owedB_cons, ← add_assoc]
    iintro ⟨#HR, HO, ⟨Ht, Hs⟩, Hl⟩ Hk
    iapply (Rounds.wp_signal 𝒱₀ EX (xRd m ρ) (c : Thread nD τ) none (dst := (src c s : Thread nD τ)) (κ := K (src c s, .inl ()))
        (d := s) (by rw [duties_bar]; exact Finset.mem_univ _) ((amount_bar m ρ (src c s) s).trans (by decide)) () (O + owedB c l) rfl) $$ [HO Ht Hs]
    · isplitr; · iapply (inv_at m ρ K (src c s, .inl ())); iexact HR
      isplitl [HO]; · iexact HO
      isplitl [Ht]; · iexact Ht
      isplitl [Hs]
      · rw [payload_bar]; unfold barPay; rw [tgt_src]; iexact Hs
      · iapply (reached_at m ρ K (src c s, .inl ())); iexact HR
    iintro HO
    iapply (wp_sigs O W k l (List.nodup_cons.mp hn).2) $$ [HO Hl]
    · isplitr; · iexact HR
      isplitl [HO]; · iexact HO
      unfold sigRes; iexact Hl
    iexact Hk

theorem sendPay_eq (s : Fin 31) : sendPay m ρ c s
    = ((slot 0).view.loc (c : Thread nD τ) ↦[(slot 0).view.set]{leafS s.succ} (comm m ρ c) : sProp 𝕄) := by
  unfold sendPay sPts; rw [slot_set]

theorem amount_slot (s : Fin 31) : (slot s.succ).view.amount (SemLoc.dma (recvSem s.succ)) = N := rfl

theorem landPay (s : Fin 31) (fd : Buf (Elt F) (cLoc (tgt c s))) :
    ((slot s.succ).view.loc (tgt c s : Thread nD τ) ↦[(slot s.succ).view.set]{fullShare}
        ((slot s.succ).view.write (Elt F) fd ((slot 0).view.read (Elt F) (comm m ρ c)) Finset.univ) : sProp 𝕄)
      = (xRd m ρ).payload (recvCell (tgt c s) s) 0 0 := by
  rw [payload_recv]; unfold recvPay sPts; rw [slot_set]
  exact pointsTo_congr (landed m ρ c s fd)

theorem routes_tc (a b : Dev nD) : τ.routes (a : Thread nD τ) (b : Thread nD τ) = true := by routes

/-- One copy: a share of slot 0 and the slot it fills go in, the send credit comes out. -/
theorem wp_copy {Q : PUnit → sProp 𝕄} (s : Fin 31) (n : Dev nD) (hn : n = tgt c s) {hsc : (slot s.succ : Memref sig (Dev.tc n : Thread nD τ).2.kind .vmem S2x512 .f32).view.ref.isScScratch = false}
    {hsrc : (slot 0).view.WordExact} {hdst : (slot s.succ).view.WordExact}
    {hsem : DmaTarget.Typed .vmem (.dma (recvSem s.succ)) (.remote (Dev.tc n : Thread nD τ) (slot s.succ) (.dma (sendSem s.succ)) hsc)}
    {k : PUnit → Prog (𝔼 F) PUnit} (fd : Buf (Elt F) (cLoc (tgt c s))) (O : CellTallies nD τ sig Unit) (W : Waits sig Unit) :
    iprop(cellInv EX (xRd m ρ) (K (c, .inr (.inl s))) (sendCell c s) ∗ cellInv EX (xRd m ρ) (K (tgt c s, .inr (.inr s))) (recvCell (tgt c s) s)
        ∗ sendPay m ρ c s ∗ sPts (tgt c s) s.succ fullShare fd
        ∗ owes (c : Thread nD τ) (O + tallyAt (recvCell (tgt c s) s) () N) W
        ∗ dutyTok EX (sendCell c s) 0 0 ∗ reached EX (sendCell c s) 0
        ∗ dutyTok EX (recvCell (tgt c s) s) 0 0 ∗ reached EX (recvCell (tgt c s) s) 0)
      ⊢ iprop(((cred (tallyAt (sendCell c s) () N) ∗ owes (c : Thread nD τ) O W) -∗ wpB c (k ⟨⟩) Q)
          -∗ wpB c (.op (.enqueueDma (slot 0) (.remote (Dev.tc n : Thread nD τ) (slot s.succ) (.dma (sendSem s.succ)) hsc) (.dma (recvSem s.succ)) hsrc hdst hsem) k) Q) := by
  subst hn
  have hd : sPts (tgt c s) s.succ fullShare fd
      = ((slot s.succ).view.loc (tgt c s : Thread nD τ) ↦[(slot s.succ).view.set]{fullShare} fd : sProp 𝕄) := by
    unfold sPts; rw [slot_set]
  rw [sendPay_eq, hd]
  exact Rounds.wp_send_pointsTo 𝒱₀ EX (xRd m ρ) (c : Thread nD τ) none (c' := (tgt c s : Thread nD τ)) (src := slot 0) (dst := slot s.succ)
    (sS := .dma (sendSem s.succ)) (sem := .dma (recvSem s.succ)) (q := leafS s.succ) (fs := comm m ρ c) (κ₁ := K (c, .inr (.inl s))) (κ₂ := K (tgt c s, .inr (.inr s)))
    (r₁ := 0) (r₂ := 0) (d₁ := 0) (d₂ := 0) (fd := fd)
    (by rw [duties_send]; exact Finset.mem_singleton_self _) (by rw [duties_recv]; exact Finset.mem_singleton_self _)
    () () N (amount_slot s) (amount_send m ρ c s 0) (amount_recv m ρ (tgt c s) s 0) O rfl (W := W)
    (Entails.of_eq ((sendPay_eq m ρ c s).symm.trans (payload_send m ρ c s 0).symm))
    (Entails.of_eq (landPay m ρ c s fd)) (Es := Set.univ) (routes_tc c (tgt c s))

/-- What the copy of exchange `s` takes: its share of slot 0, the slot it fills, the two duties. -/
def sendRes (c : Dev nD) (s : Fin 31) : sProp 𝕄 :=
  iprop(sendPay m ρ c s ∗ barPay c s ∗ dutyTok EX (sendCell c s) 0 0 ∗ dutyTok EX (recvCell (tgt c s) s) 0 0)

/-- The copies. -/
theorem wp_sends {Q : PUnit → sProp 𝕄} (W : Waits sig Unit) (k : Prog (𝔼 F) PUnit) : ∀ l : List (Fin 31), l.Nodup →
    iprop(records m ρ K ∗ owes (c : Thread nD τ) (owedR c l) W ∗ bigSep l.toFinset (sendRes m ρ c))
      ⊢ iprop(((owes (c : Thread nD τ) 0 W ∗ bigSep l.toFinset fun s => cred (tallyAt (sendCell c s) () N)) -∗ wpB c k Q) -∗ wpB c (sendK c l k) Q)
  | [], _ => by
    iintro ⟨-, HO, -⟩ Hk
    iapply Hk
    isplitl [HO]; · iexact HO
    rw [List.toFinset_nil, bigSep_empty]; iempintro
  | s :: l, hn => by
    rw [bigSep_list_cons hn, bigSep_list_cons hn]
    unfold sendK sendRes barPay
    iintro ⟨#HR, HO, ⟨Hp, ⟨%fd, Hd⟩, Ht1, Ht2⟩, Hl⟩ Hk
    iapply (wp_copy m ρ K c s _ (send_dev c s) fd (owedR c l) W) $$ [HO Hp Hd Ht1 Ht2]
    · isplitr; · iapply (inv_at m ρ K (c, .inr (.inl s))); iexact HR
      isplitr; · iapply (inv_at m ρ K (tgt c s, .inr (.inr s))); iexact HR
      isplitl [Hp]; · iexact Hp
      isplitl [Hd]; · iexact Hd
      isplitl [HO]; · rw [owedR_cons]; iexact HO
      isplitl [Ht1]; · iexact Ht1
      isplitr; · iapply (reached_at m ρ K (c, .inr (.inl s))); iexact HR
      isplitl [Ht2]; · iexact Ht2
      iapply (reached_at m ρ K (tgt c s, .inr (.inr s))); iexact HR
    iintro ⟨Hc, HO⟩
    iapply (wp_sends W k l (List.nodup_cons.mp hn).2) $$ [HO Hl]
    · isplitr; · iexact HR
      isplitl [HO]; · iexact HO
      unfold sendRes barPay; iexact Hl
    iintro ⟨HO, Hcs⟩
    iapply Hk
    isplitl [HO]; · iexact HO
    isplitl [Hc] <;> iassumption

/-- What the two waits of exchange `s` take … -/
def waitRes (c : Dev nD) (s : Fin 31) : sProp 𝕄 :=
  iprop((atPos EX (sendCell c s) 0 ∅ 0 ∗ cred (tallyAt (sendCell c s) () N)) ∗ atPos EX (recvCell c s) 0 ∅ 0 ∗ cred (tallyAt (recvCell c s) () N))
/-- … and give: the share of slot 0, the slot filled, and the two semaphores at zero. -/
def waitGot (c : Dev nD) (s : Fin 31) : sProp 𝕄 :=
  iprop(sendPay m ρ c s ∗ recvPay m ρ c s ∗ semVal (sendCell c s) 0 ∗ semVal (recvCell c s) 0)

/-- The waits. -/
theorem wp_waits {Q : PUnit → sProp 𝕄} (k : Prog (𝔼 F) PUnit) : ∀ (l : List (Fin 31)) (W : Waits sig Unit), l.Nodup →
    iprop(records m ρ K ∗ owes (c : Thread nD τ) 0 W ∗ bigSep l.toFinset (waitRes (F := F) c))
      ⊢ iprop((((∃ W, owes (c : Thread nD τ) 0 W) ∗ bigSep l.toFinset (waitGot m ρ c)) -∗ wpB c k Q) -∗ wpB c (waitK l k) Q)
  | [], W, _ => by
    iintro ⟨-, HO, -⟩ Hk
    iapply Hk
    isplitl [HO]; · iexists W; iexact HO
    rw [List.toFinset_nil, bigSep_empty]; iempintro
  | s :: l, W, hn => by
    rw [bigSep_list_cons hn, bigSep_list_cons hn]
    unfold waitK waitRes waitGot
    iintro ⟨#HR, HO, ⟨⟨HatS, HcS⟩, HatV, HcV⟩, Hl⟩ Hk
    ihave #HS := (inv_at m ρ K (c, .inr (.inl s))) $$ HR
    ihave #HV := (inv_at m ρ K (c, .inr (.inr s))) $$ HR
    iapply (Rounds.wp_wait_rest_token 𝒱₀ EX (xRd m ρ) (c : Thread nD τ) none (κ := K (c, .inr (.inl s)))
        (wpE_waitDma2_eq 𝒱₀ (c : Thread nD τ) none Set.univ) (Set.mem_univ _) () (O := 0) (W := W) (R := 0) (m := 0) (T := ∅)
        (by rw [Nat.zero_add, expect_send])) $$ [HcS HO HatS]
    · isplitr; · iexact HS
      isplitl [HcS]; · iexact HcS
      isplitl [HO]; · iexact HO
      isplitr; · rw [MayWait_zero]; iempintro
      iexact HatS
    iintro ⟨HO, HatS, -, Hpay⟩
    ihave HpS := (Entails.of_eq (rest_send m ρ c s)) $$ Hpay
    iapply (Rounds.wp_wait_rest_token 𝒱₀ EX (xRd m ρ) (c : Thread nD τ) none (κ := K (c, .inr (.inr s)))
        (wpE_waitDma2_eq 𝒱₀ (c : Thread nD τ) none Set.univ) (Set.mem_univ _) () (O := 0) (R := 0) (m := 0) (T := ∅)
        (by rw [Nat.zero_add, expect_recv])) $$ [HcV HO HatV]
    · isplitr; · iexact HV
      isplitl [HcV]; · iexact HcV
      isplitl [HO]; · iexact HO
      isplitr; · rw [MayWait_zero]; iempintro
      iexact HatV
    iintro ⟨HO, HatV, -, Hpay⟩
    ihave HpV := (Entails.of_eq (rest_recv m ρ c s)) $$ Hpay
    imod (Rounds.cell_close EX (xRd m ρ) (Set.mem_univ (K (c, .inr (.inl s)))) (fun h => h) (R := 0 + 1) (duties_later m ρ (sendCell c s))) $$ [HatS] with HzS
    · isplitr; · iexact HS
      iexact HatS
    imod (Rounds.cell_close EX (xRd m ρ) (Set.mem_univ (K (c, .inr (.inr s)))) (fun h => h) (R := 0 + 1) (duties_later m ρ (recvCell c s))) $$ [HatV] with HzV
    · isplitr; · iexact HV
      iexact HatV
    iapply (wp_waits k l _ (List.nodup_cons.mp hn).2) $$ [HO Hl]
    · isplitr; · iexact HR
      isplitl [HO]; · iexact HO
      unfold waitRes; iexact Hl
    iintro ⟨HO, Hcs⟩
    iapply Hk
    isplitl [HO]; · iexact HO
    isplitr [Hcs]
    · isplitl [HpS]; · iexact HpS
      isplitl [HpV]; · iexact HpV
      isplitl [HzS] <;> iassumption
    unfold waitGot; iexact Hcs

end Loops

end Cert.ArgmaxProof

end
-- ==== Proof.Run.lean ====
/-
# One device, from the launch to the end of its body

The body's proof: signals, own rows, barrier, copies, then four times waits and loads, and the stores of the result.
-/
module

public import proofs.«01_k».proof.Proof.Body

@[expose] public section

noncomputable section

namespace Cert.ArgmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots, put together and taken apart -/

theorem bigSep_fin_cons {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

/-- The exchanges are those of the four chunks. -/
theorem bigSep_chunks (Φ : Fin 31 → sProp 𝕄) : bigSep Finset.univ Φ
    = iprop(bigSep waitL0.toFinset Φ ∗ bigSep waitL1.toFinset Φ ∗ bigSep waitL2.toFinset Φ ∗ bigSep waitL3.toFinset Φ) := by
  rw [show (Finset.univ : Finset (Fin 31)) = waitL0.toFinset ∪ (waitL1.toFinset ∪ (waitL2.toFinset ∪ waitL3.toFinset)) by decide,
    bigSep_union (by decide), bigSep_union (by decide), bigSep_union (by decide)]
  rfl

/-- The whole communication buffer is its slots. -/
theorem slots_whole (c : Dev nD) (f : Buf (Elt F) (cLoc c)) :
    (cLoc c ↦{fullShare} f : sProp 𝕄) = iprop(sPts c 0 fullShare f ∗ bigSep Finset.univ fun s : Fin 31 => sPts c s.succ fullShare f) := by
  rw [← bigSep_fin_cons fun s : Fin 32 => sPts c s fullShare f]
  unfold sPts
  rw [← pointsTo_biUnion _ _ fun s _ s' _ h => sset_disjoint h, sset_cover]

theorem leaves_cast {ℓ : Loc nD τ sig} (I : Finset (Idx ℓ)) (f : Buf (Elt F) ℓ) (q : PosShare TreeShare) (n k : ℕ) (h : k = 2 ^ n) :
    (ℓ ↦[I]{q} f : sProp 𝕄) = bigSep Finset.univ fun b : Fin k => ℓ ↦[I]{ShareLeaves.leaf n q (Fin.cast h b)} f := by
  subst h; exact ShareLeaves.pointsTo_leaves I f n q

/-- A slot is its kept share and the shares of the 31 copies. -/
theorem slot_shares (c : Dev nD) (s : Fin 32) (f : Buf (Elt F) (cLoc c)) :
    sPts c s fullShare f = iprop(sPts c s (leafS 0) f ∗ bigSep Finset.univ fun b : Fin 31 => sPts c s (leafS b.succ) f) := by
  rw [← bigSep_fin_cons fun b : Fin 32 => sPts c s (leafS b) f]
  unfold sPts leafS
  exact leaves_cast (ℓ := cLoc c) (sset s) f fullShare 5 32 _

/-- The slots the exchanges `l` fill. -/
abbrev fills (l : List (Fin 31)) : Finset (Fin 32) := l.toFinset.map ⟨Fin.succ, Fin.succ_injective 31⟩

theorem bigSep_fills (l : List (Fin 31)) (Φ : Fin 32 → sProp 𝕄) : bigSep (fills l) Φ = bigSep l.toFinset fun s => Φ s.succ := by
  rw [bigSep_map]; rfl

/-! ## The result -/

/-- What the load of the rectangle `r` reads once the slots it meets have arrived. -/
def rd (r : Rect S32x2x512) (c : Dev nD) : r.shape.Idx → Elt F .f32 := cM.view.readAt (Elt F) r.toLoadRect (comm m ρ c)

/-- The two rows of the result, from the four chunks' value rows `a` and number rows `b`. -/
def resV (a0 b0 a1 b1 a2 b2 a3 b3 : Vec F S8x1x512 .f32) : FVec F S512 .f32 :=
  let v := k0_pay9 a0
  let w := k0_pay10 a0 b0
  let v' := k0_pay15 v w a1 b1
  let w' := k0_pay16 v w a1 b1
  let v'' := k0_pay21 v' w' a2 b2
  let w'' := k0_pay22 v' w' a2 b2
  k0_pay30 v'' (k0_pay24 a3) (k0_pay26 v'' a3) (k0_pay27 v'' a3) (k0_pay28 w'' a3 b3)
def resI (a0 b0 a1 b1 a2 b2 a3 b3 : Vec F S8x1x512 .f32) : FVec F S512 .f32 :=
  let v := k0_pay9 a0
  let w := k0_pay10 a0 b0
  let v' := k0_pay15 v w a1 b1
  let w' := k0_pay16 v w a1 b1
  let v'' := k0_pay21 v' w' a2 b2
  let w'' := k0_pay22 v' w' a2 b2
  k0_pay31 w'' (k0_pay25 a3 b3) (k0_pay26 v'' a3) (k0_pay27 v'' a3) (k0_pay28 w'' a3 b3)

def outV (c : Dev nD) : FVec F S512 .f32 :=
  resV (rd m ρ q00 c) (rd m ρ q01 c) (rd m ρ q10 c) (rd m ρ q11 c) (rd m ρ q20 c) (rd m ρ q21 c) (rd m ρ q30 c) (rd m ρ q31 c)
def outI (c : Dev nD) : FVec F S512 .f32 :=
  resI (rd m ρ q00 c) (rd m ρ q01 c) (rd m ρ q10 c) (rd m ρ q11 c) (rd m ρ q20 c) (rd m ρ q21 c) (rd m ρ q30 c) (rd m ρ q31 c)

/-- Two rows stored one over the other: row 0 the values `v`, row 1 the numbers `w`. -/
def twoRows (v w : FVec F S512 .f32) : (cc0_stg1_0 : Ref sig .tc).ty.Contents (Elt F) := fun i : S2x512.Idx =>
  if (i 0).val = 0 then k0_pay1 v (ValueIdx.ix2 (0 : Fin 1) (i 1)) else k0_pay2 w (ValueIdx.ix2 (0 : Fin 1) (i 1))

def outAt (c : Dev nD) : (cc0_stg1_0 : Ref sig .tc).ty.Contents (Elt F) := twoRows (outV m ρ c) (outI m ρ c)

theorem twoRows_eq (f : (cc0_stg1_0 : Ref sig .tc).ty.Contents (Elt F)) (v w : FVec F S512 .f32) :
    (oM.access o1).write (Elt F) ((oM.access o0).write (Elt F) f (k0_pay1 v) Finset.univ) (k0_pay2 w) Finset.univ = twoRows v w := by
  refine funext fun (i : S2x512.Idx) => ?_
  have e0 : (i 0).val = 0 → (oM.access o0).emb (ValueIdx.ix2 (0 : Fin 1) (i 1)) = i := fun h => by
    refine funext fun a => Fin.ext ((ValueKit.rect_emb_unit_val (s := S2x512) ![0, 0] S1x512.size inb_S2x512_S1x512_0_0 (ValueIdx.ix2 (0 : Fin 1) (i 1)) a).trans ?_)
    fin_cases a
    · simp [h]
    · simp
  have e1 : (i 0).val = 1 → (oM.access o1).emb (ValueIdx.ix2 (0 : Fin 1) (i 1)) = i := fun h => by
    refine funext fun a => Fin.ext ((ValueKit.rect_emb_unit_val (s := S2x512) ![1, 0] S1x512.size inb_S2x512_S1x512_1_0 (ValueIdx.ix2 (0 : Fin 1) (i 1)) a).trans ?_)
    fin_cases a
    · simp [h]
    · simp
  have hlt : (i 0).val < 2 := (i 0).isLt
  unfold twoRows
  rcases (show (i 0).val = 0 ∨ (i 0).val = 1 by omega) with h | h
  · rw [if_pos h, View.write_of_not_mem]
    · conv_lhs => rw [← e0 h]
      rw [View.write_emb_of_mem _ _ (Finset.mem_univ _)]
      rfl
    · intro hm
      obtain ⟨j, -, hj⟩ := Finset.mem_map.mp hm
      have := (ValueKit.rect_emb_unit_val (s := S2x512) ![1, 0] S1x512.size inb_S2x512_S1x512_1_0 j 0)
      rw [show (o1.emb j : S2x512.Idx) = i from hj] at this
      simp at this
      omega
  · rw [if_neg (by omega)]
    conv_lhs => rw [← e1 h]
    rw [View.write_emb_of_mem _ _ (Finset.mem_univ _)]
    rfl

/-! ## What a device starts from and ends with -/

/-- The unused first semaphores of the two arrays. -/
def idle (c : Dev nD) : sProp 𝕄 :=
  iprop(semVal ((c : Thread nD τ), .dma (sendSem 0)) 0 ∗ semVal ((c : Thread nD τ), .dma (recvSem 0)) 0)

/-- What is device `c`'s alone: its positions, and the duties it pays. -/
def linear (c : Dev nD) : sProp 𝕄 :=
  iprop((atPos EX (barCell c) 0 ∅ 0 ∗ (bigSep Finset.univ fun s => atPos EX (sendCell c s) 0 ∅ 0) ∗ bigSep Finset.univ fun s => atPos EX (recvCell c s) 0 ∅ 0)
    ∗ ((bigSep Finset.univ fun s => dutyTok EX (barCell (src c s)) 0 s) ∗ (bigSep Finset.univ fun s => dutyTok EX (sendCell c s) 0 0)
      ∗ bigSep Finset.univ fun s => dutyTok EX (recvCell (tgt c s) s) 0 0) ∗ idle c)

def ghost (K : Dev nD × CK → ℕ) (c : Dev nD) : sProp 𝕄 := iprop(records m ρ K ∗ linear c)

/-- That at some names, the credit for what the others owe its cells, and the levels. -/
def start (c : Dev nD) : sProp 𝕄 :=
  iprop((∃ K, ghost m ρ K c) ∗ cred (tallyAt (barCell c) () 31) ∗ (bigSep Finset.univ fun s => cred (tallyAt (recvCell c s) () N)) ∗ levAts L lv)

def Φ₀ (c : Dev nD) : sProp 𝕄 := iprop(start m ρ c ∗ ∃ f : Buf (Elt F) (cLoc c), cLoc c ↦{fullShare} f)
/-- After the body: the communication buffer, every slot arrived, and every semaphore at zero. -/
def Φ₁ (c : Dev nD) : sProp 𝕄 :=
  iprop((cLoc c ↦{fullShare} comm m ρ c) ∗ (bigSep Finset.univ fun s => semVal (sendCell c s) 0) ∗ (bigSep Finset.univ fun s => semVal (recvCell c s) 0)
    ∗ idle c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fin_N (t : Fin cfg0.N) : t = t0_0 := fin_N0 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Chunks
variable (K : Dev nD × CK → ℕ) (c : Dev nD)

/-- A load of slots `T`, held at any share. -/
theorem wp_loadC {Q : PUnit → sProp 𝕄} (T : Finset (Fin 32)) (q : PosShare TreeShare) (r : Rect S32x2x512) (h : 0 < r.shape.numel)
    (hsub : cM.view.setOn r.toLoadRect.set ⊆ T.biUnion sset) (k : (r.shape.Idx → Elt F .f32) → Prog (𝔼 F) PUnit) :
    bigSep T (fun s => sPts c s q (comm m ρ c))
      ⊢ iprop((bigSep T (fun s => sPts c s q (comm m ρ c)) -∗ wpB c (k (rd m ρ r c)) Q) -∗ wpB c (loadC r h k) Q) := by
  unfold sPts
  rw [← pointsTo_biUnion _ _ fun s _ s' _ h => sset_disjoint h]
  exact wp_load 𝒱₀ (c : Thread nD τ) none Set.univ (m := cM) (S := T.biUnion sset) (f := comm m ρ c) hsub

/-- The same for slots an exchange list has filled. -/
theorem wp_loadL {Q : PUnit → sProp 𝕄} (l : List (Fin 31)) (r : Rect S32x2x512) (h : 0 < r.shape.numel)
    (hsub : cM.view.setOn r.toLoadRect.set ⊆ (fills l).biUnion sset) (k : (r.shape.Idx → Elt F .f32) → Prog (𝔼 F) PUnit) :
    bigSep l.toFinset (recvPay m ρ c)
      ⊢ iprop((bigSep l.toFinset (recvPay m ρ c) -∗ wpB c (k (rd m ρ r c)) Q) -∗ wpB c (loadC r h k) Q) := by
  unfold recvPay
  rw [← bigSep_fills l fun s => sPts c s fullShare (comm m ρ c)]
  exact wp_loadC m ρ c _ _ r h hsub k

/-- The first chunk: the kept share of slot 0, and of the seven slots filled the same share. -/
theorem wp_load0 {Q : PUnit → sProp 𝕄} (r : Rect S32x2x512) (h : 0 < r.shape.numel)
    (hsub : cM.view.setOn r.toLoadRect.set ⊆ (insert 0 (fills waitL0)).biUnion sset) (k : (r.shape.Idx → Elt F .f32) → Prog (𝔼 F) PUnit) :
    iprop(sPts c 0 (leafS 0) (comm m ρ c) ∗ bigSep waitL0.toFinset (recvPay m ρ c))
      ⊢ iprop(((sPts c 0 (leafS 0) (comm m ρ c) ∗ bigSep waitL0.toFinset (recvPay m ρ c)) -∗ wpB c (k (rd m ρ r c)) Q) -∗ wpB c (loadC r h k) Q) := by
  have hT : bigSep (insert 0 (fills waitL0)) (fun s => sPts c s (leafS 0) (comm m ρ c))
      = iprop(sPts c 0 (leafS 0) (comm m ρ c) ∗ bigSep waitL0.toFinset fun s => sPts c s.succ (leafS 0) (comm m ρ c)) := by
    rw [bigSep_insert (by decide), bigSep_fills waitL0 fun s => sPts c s (leafS 0) (comm m ρ c)]; rfl
  have hp : bigSep waitL0.toFinset (recvPay m ρ c) = iprop((bigSep waitL0.toFinset fun s => sPts c s.succ (leafS 0) (comm m ρ c))
      ∗ bigSep waitL0.toFinset fun s => bigSep Finset.univ fun b : Fin 31 => sPts c s.succ (leafS b.succ) (comm m ρ c)) := by
    rw [← bigSep_sep']; exact bigSep_congr fun s _ => slot_shares c s.succ (comm m ρ c)
  rw [hp]
  iintro ⟨H0, Hs, Hr⟩ Hk
  ihave HT := (Entails.of_eq hT.symm) $$ [H0 Hs]
  · isplitl [H0] <;> iassumption
  iapply (wp_loadC m ρ c _ _ r h hsub k) $$ HT
  iintro HT
  ihave H := (Entails.of_eq hT) $$ HT
  icases H with ⟨H0, Hs⟩
  iapply Hk
  isplitl [H0]; · iexact H0
  isplitl [Hs] <;> iassumption

/-- What a chunk's waits give, sorted. -/
theorem got_eq (l : List (Fin 31)) : bigSep l.toFinset (waitGot m ρ c) = iprop(bigSep l.toFinset (sendPay m ρ c) ∗ bigSep l.toFinset (recvPay m ρ c)
    ∗ (bigSep l.toFinset fun s => semVal (sendCell c s) 0) ∗ bigSep l.toFinset fun s => semVal (recvCell c s) 0) := by
  unfold waitGot; rw [bigSep_sep', bigSep_sep', bigSep_sep']

/-- The rectangles of the loads lie in the slots that have arrived. -/
theorem sub0 (a : ℕ) (inb) : cM.view.setOn (Rect.unit (s := S32x2x512) ![0, a, 0] S8x1x512.size inb).toLoadRect.set ⊆ (insert 0 (fills waitL0)).biUnion sset :=
  rect_sub 0 8 a S8x1x512.size rfl inb _ (by decide)
theorem sub1 (a : ℕ) (inb) : cM.view.setOn (Rect.unit (s := S32x2x512) ![8, a, 0] S8x1x512.size inb).toLoadRect.set ⊆ (fills waitL1).biUnion sset :=
  rect_sub 8 8 a S8x1x512.size rfl inb _ (by decide)
theorem sub2 (a : ℕ) (inb) : cM.view.setOn (Rect.unit (s := S32x2x512) ![16, a, 0] S8x1x512.size inb).toLoadRect.set ⊆ (fills waitL2).biUnion sset :=
  rect_sub 16 8 a S8x1x512.size rfl inb _ (by decide)
theorem sub3 (a : ℕ) (inb) : cM.view.setOn (Rect.unit (s := S32x2x512) ![24, a, 0] S8x1x512.size inb).toLoadRect.set ⊆ (fills waitL3).biUnion sset :=
  rect_sub 24 8 a S8x1x512.size rfl inb _ (by decide)
theorem subOwn (a : ℕ) (inb) : cM.view.setOn (Rect.unit (s := S32x2x512) ![0, a, 0] S1x1x512.size inb).toLoadRect.set ⊆ sset 0 := by
  have := rect_sub 0 1 a S1x1x512.size rfl inb {0} (by decide)
  rwa [Finset.singleton_biUnion] at this
theorem subOwnW (a : ℕ) (inb) : (cM.access (Rect.unit (s := S32x2x512) ![0, a, 0] S1x1x512.size inb)).setOn Finset.univ ⊆ sset 0 := by
  intro i hi
  obtain ⟨j, -, rfl⟩ := Finset.mem_map.mp hi
  have hj : (j (0 : Fin 3)).val < 1 := (j (0 : Fin 3)).isLt
  refine mem_sset.mpr (Fin.ext ((ValueKit.rect_emb_unit_val (s := S32x2x512) ![0, a, 0] S1x1x512.size inb j (0 : Fin 3)).trans ?_))
  rw [Nat.lt_one_iff.mp hj]; rfl

set_option maxHeartbeats 1000000 in
/-- The four chunks and the stores: from all that the copies left, to everything at rest. -/
theorem wp_chunks {Q : PUnit → sProp 𝕄} (W : Waits sig Unit) (g : (cc0_stg1_0 : Ref sig .tc).ty.Contents (Elt F)) :
    iprop(records m ρ K ∗ owes (c : Thread nD τ) 0 W ∗ bigSep Finset.univ (waitRes (F := F) c) ∗ sPts c 0 (leafS 0) (comm m ρ c)
        ∗ (((c : Thread nD τ).loc cc0_stg1_0) ↦{fullShare} g))
      ⊢ iprop((((∃ W, owes (c : Thread nD τ) 0 W) ∗ (cLoc c ↦{fullShare} comm m ρ c)
            ∗ (bigSep Finset.univ fun s => semVal (sendCell c s) 0) ∗ (bigSep Finset.univ fun s => semVal (recvCell c s) 0)
            ∗ (((c : Thread nD τ).loc cc0_stg1_0) ↦{fullShare} outAt m ρ c)) -∗ Q ⟨⟩)
          -∗ wpB c (chunksK (F := F)) Q) := by
  unfold chunksK
  rw [bigSep_chunks (waitRes (F := F) c)]
  iintro ⟨#HR, HO, ⟨Hw0, Hw1, Hw2, Hw3⟩, H0, Hout⟩ Hk
  iapply (wp_waits m ρ K c _ waitL0 W (by decide)) $$ [HO Hw0]
  · isplitr; · iexact HR
    isplitl [HO] <;> iassumption
  iintro ⟨⟨%W0, HO⟩, Hg⟩
  ihave Hg' := (Entails.of_eq (got_eq m ρ c waitL0)) $$ Hg
  icases Hg' with ⟨Hs0, Hr0, HzS0, HzV0⟩
  iapply (wp_load0 m ρ c q00 h_S8x1x512 (sub0 0 _) _) $$ [H0 Hr0]
  · isplitl [H0] <;> iassumption
  iintro H
  iapply (wp_load0 m ρ c q01 h_S8x1x512 (sub0 1 _) _) $$ H
  iintro ⟨H0, Hr0⟩
  iapply (wp_waits m ρ K c _ waitL1 W0 (by decide)) $$ [HO Hw1]
  · isplitr; · iexact HR
    isplitl [HO] <;> iassumption
  iintro ⟨⟨%W1, HO⟩, Hg⟩
  ihave Hg' := (Entails.of_eq (got_eq m ρ c waitL1)) $$ Hg
  icases Hg' with ⟨Hs1, Hr1, HzS1, HzV1⟩
  iapply (wp_loadL m ρ c waitL1 q10 h_S8x1x512 (sub1 0 _) _) $$ Hr1
  iintro Hr1
  iapply (wp_loadL m ρ c waitL1 q11 h_S8x1x512 (sub1 1 _) _) $$ Hr1
  iintro Hr1
  iapply (wp_waits m ρ K c _ waitL2 W1 (by decide)) $$ [HO Hw2]
  · isplitr; · iexact HR
    isplitl [HO] <;> iassumption
  iintro ⟨⟨%W2, HO⟩, Hg⟩
  ihave Hg' := (Entails.of_eq (got_eq m ρ c waitL2)) $$ Hg
  icases Hg' with ⟨Hs2, Hr2, HzS2, HzV2⟩
  iapply (wp_loadL m ρ c waitL2 q20 h_S8x1x512 (sub2 0 _) _) $$ Hr2
  iintro Hr2
  iapply (wp_loadL m ρ c waitL2 q21 h_S8x1x512 (sub2 1 _) _) $$ Hr2
  iintro Hr2
  iapply (wp_waits m ρ K c _ waitL3 W2 (by decide)) $$ [HO Hw3]
  · isplitr; · iexact HR
    isplitl [HO] <;> iassumption
  iintro ⟨HO, Hg⟩
  ihave Hg' := (Entails.of_eq (got_eq m ρ c waitL3)) $$ Hg
  icases Hg' with ⟨Hs3, Hr3, HzS3, HzV3⟩
  iapply (wp_loadL m ρ c waitL3 q30 h_S8x1x512 (sub3 0 _) _) $$ Hr3
  iintro Hr3
  iapply (wp_loadL m ρ c waitL3 q31 h_S8x1x512 (sub3 1 _) _) $$ Hr3
  iintro Hr3
  unfold storeK
  iapply (wp_load 𝒱₀ (c : Thread nD τ) none Set.univ (m := oM) (Finset.subset_univ _)) $$ Hout; iintro Hout
  iapply (wp_store 𝒱₀ (c : Thread nD τ) none Set.univ (m := oM) (r := o0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := o1) (Mk := Finset.univ) (Finset.subset_univ _)) $$ Hout; iintro Hout
  rw [twoRows_eq, wp_ret]; imodintro
  iapply Hk
  isplitl [HO]; · iexact HO
  isplitl [H0 Hr0 Hr1 Hr2 Hr3 Hs0 Hs1 Hs2 Hs3]
  · rw [slots_whole, slot_shares]
    isplitl [H0 Hs0 Hs1 Hs2 Hs3]
    · isplitl [H0]; · iexact H0
      iapply (Entails.of_eq (bigSep_chunks (sendPay m ρ c)).symm)
      isplitl [Hs0]; · iexact Hs0
      isplitl [Hs1]; · iexact Hs1
      isplitl [Hs2] <;> iassumption
    · iapply (Entails.of_eq (bigSep_chunks (recvPay m ρ c)).symm)
      isplitl [Hr0]; · iexact Hr0
      isplitl [Hr1]; · iexact Hr1
      isplitl [Hr2] <;> iassumption
  rw [bigSep_chunks fun s => (semVal (sendCell c s) 0 : sProp 𝕄), bigSep_chunks fun s => (semVal (recvCell c s) 0 : sProp 𝕄)]
  isplitl [HzS0 HzS1 HzS2 HzS3]
  · isplitl [HzS0]; · iexact HzS0
    isplitl [HzS1]; · iexact HzS1
    isplitl [HzS2] <;> iassumption
  isplitl [HzV0 HzV1 HzV2 HzV3]
  · isplitl [HzV0]; · iexact HzV0
    isplitl [HzV1]; · iexact HzV1
    isplitl [HzV2] <;> iassumption
  iexact Hout

end Chunks

section Body
variable (K : Dev nD × CK → ℕ) (c : Dev nD)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 31) ∗ (bigSep Finset.univ fun s => cred (tallyAt (recvCell c s) () N)) ∗ levAts L lv
      ∗ ∃ f : Buf (Elt F) (cLoc c), cLoc c ↦{fullShare} f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

theorem sigRes_one (s : Fin 31) (f : Buf (Elt F) (cLoc c)) :
    iprop(dutyTok EX (barCell (src c s)) 0 s ∗ sPts c s.succ fullShare f) ⊢ sigRes (F := F) c s := by
  unfold sigRes
  iintro ⟨H, Hs⟩
  isplitl [H]; · iexact H
  iexists f; iexact Hs

/-- What all signals hand over: the tokens, and the slots of a buffer of any contents. -/
theorem sigRes_intro (f : Buf (Elt F) (cLoc c)) :
    iprop((bigSep Finset.univ fun s => dutyTok EX (barCell (src c s)) 0 s) ∗ bigSep Finset.univ fun s : Fin 31 => sPts c s.succ fullShare f)
      ⊢ bigSep sigL.toFinset (sigRes (F := F) c) := by
  rw [← sigL_univ, ← bigSep_sep']
  exact bigSep_mono fun s _ => sigRes_one c s f

theorem stored_pts (f : Buf (Elt F) (cLoc c)) :
    ((cM.access r01).loc (c : Thread nD τ) ↦[sset 0]{fullShare} (cM.access r01).write (Elt F)
      ((cM.access r00).write (Elt F) f (k0_pay6 (xM.view.readAt (Elt F) rx.toLoadRect (xstg m ρ c))) Finset.univ)
      (k0_pay7 (k0_pay5 (pos (c : Thread nD τ).1) (xM.view.readAt (Elt F) rx.toLoadRect (xstg m ρ c)))) Finset.univ : sProp 𝕄) = sPts c 0 fullShare (comm m ρ c) :=
  pointsTo_congr (stored m ρ c f)

/-- What all copies take. -/
theorem sendRes_intro :
    iprop((bigSep Finset.univ (sendPay m ρ c)) ∗ (bigSep Finset.univ (barPay (F := F) c)) ∗ (bigSep Finset.univ fun s => dutyTok EX (sendCell c s) 0 0)
        ∗ bigSep Finset.univ fun s => dutyTok EX (recvCell (tgt c s) s) 0 0)
      ⊢ bigSep sendL.toFinset (sendRes m ρ c) := by
  rw [← sendL_univ]
  unfold sendRes
  rw [bigSep_sep', bigSep_sep', bigSep_sep']

/-- What all waits take. -/
theorem waitRes_intro :
    iprop((bigSep Finset.univ fun s => atPos EX (sendCell c s) 0 ∅ 0) ∗ (bigSep sendL.toFinset fun s => cred (tallyAt (sendCell c s) () N))
        ∗ (bigSep Finset.univ fun s => atPos EX (recvCell c s) 0 ∅ 0) ∗ bigSep Finset.univ fun s => cred (tallyAt (recvCell c s) () N))
      ⊢ (bigSep Finset.univ (waitRes (F := F) c) : sProp 𝕄) := by
  rw [← sendL_univ]
  unfold waitRes
  rw [bigSep_sep', bigSep_sep', bigSep_sep']
  iintro ⟨H1, H2, H3, H4⟩
  isplitl [H1 H2]
  · isplitl [H1] <;> iassumption
  isplitl [H3] <;> iassumption

set_option maxHeartbeats 1000000 in
/-- The body on device `c`, from `bodyPre` to `bodyPost`. -/
theorem sound_body (Kt : PUnit → sProp 𝕄) :
    iprop(bodyPre m ρ K c ∗ (bodyPost m ρ c -∗ Kt ⟨⟩)) ⊢ wpB c (bodyK (F := F)) Kt := by
  unfold bodyK wpB
  rw [wp_deviceId]
  unfold bodyPre ghost linear
  iintro ⟨⟨⟨⟨#HR, ⟨HatB, HatS, HatV⟩, ⟨HtB, HtS, HtV⟩, Hidle⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (by rfl)]; rfl
  subst hx
  unfold Dat.owesAt Pipeline.owesWithin
  icases Ho with ⟨%W, %hW, HO⟩
  rw [show (dats m ρ 0 c).owed t0_0.castSucc = owedR c sendL + owedB c sigL from rfl]
  ihave Hs := (Entails.of_eq (slots_whole c f0)) $$ Hscr
  icases Hs with ⟨H0, Hsl⟩
  -- the signals, each with the slot its receiver will fill
  iapply (wp_sigs m ρ K c (owedR c sendL) W _ sigL sigL_nodup) $$ [HO HtB Hsl]
  · isplitr; · iexact HR
    isplitl [HO]; · iexact HO
    iapply (sigRes_intro c f0)
    isplitl [HtB] <;> iassumption
  iintro HO
  -- the own rows, into slot 0
  iapply (wp_load 𝒱₀ (c : Thread nD τ) none Set.univ (m := xM) (Finset.subset_univ _)) $$ Hx; iintro Hx
  unfold sPts
  iapply (wp_load 𝒱₀ (c : Thread nD τ) none Set.univ (m := cM) (S := sset 0) (f := f0) (subOwn 0 _)) $$ H0; iintro H0
  iapply (wp_store 𝒱₀ (c : Thread nD τ) none Set.univ (m := cM) (r := r00) (Mk := Finset.univ) (S := sset 0) (f := f0) (subOwnW 0 _)) $$ H0; iintro H0
  iapply (wp_load 𝒱₀ (c : Thread nD τ) none Set.univ (m := cM) (S := sset 0) (subOwn 1 _)) $$ H0; iintro H0
  iapply (wp_store 𝒱₀ (c : Thread nD τ) none Set.univ (m := cM) (r := r01) (Mk := Finset.univ) (S := sset 0) (subOwnW 1 _)) $$ H0; iintro H0
  ihave H0 := (Entails.of_eq (stored_pts m ρ c f0)) $$ H0
  -- the barrier, owing the copies: the slots to copy into come with it
  iapply (Rounds.wp_wait_rest_token 𝒱₀ EX (xRd m ρ) (c : Thread nD τ) none (κ := K (c, .inl ()))
      (wpE_semWait_eq 𝒱₀ (c : Thread nD τ) none Set.univ) (Set.mem_univ _) () (O := owedR c sendL) (W := W) (R := 0) (m := 0) (T := ∅)
      (by rw [expect_bar])) $$ [HcB HO HatB]
  · isplitr; · iapply (inv_at m ρ K (c, .inl ())); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  imod (Rounds.cell_close EX (xRd m ρ) (Set.mem_univ (K (c, .inl ()))) (fun h => h) (R := 0 + 1) (duties_later m ρ (barCell c))) $$ [HatB] with HzB
  · isplitr; · iapply (inv_at m ρ K (c, .inl ())); iexact HR
    iexact HatB
  -- the copies, each with a share of slot 0
  ihave H0' := (Entails.of_eq (slot_shares c 0 (comm m ρ c))) $$ H0
  icases H0' with ⟨H0, Hsh⟩
  iapply (wp_sends m ρ K c (insert (SemLoc.reg barS, ()) W) _ sendL sendL_nodup) $$ [HO Hsh Hp HtS HtV]
  · isplitr; · iexact HR
    isplitl [HO]; · iexact HO
    iapply (sendRes_intro m ρ c)
    isplitl [Hsh]; · iexact Hsh
    isplitl [Hp]; · iexact Hp
    isplitl [HtS] <;> iassumption
  iintro ⟨HO, HcS⟩
  -- the chunks
  iapply (wp_chunks m ρ K c _ g1) $$ [HO HatS HatV HcS HcV H0 Hout]
  · isplitr; · iexact HR
    isplitl [HO]; · iexact HO
    isplitl [HatS HatV HcS HcV]
    · iapply (waitRes_intro c)
      isplitl [HatS]; · iexact HatS
      isplitl [HcS]; · iexact HcS
      isplitl [HatV] <;> iassumption
    isplitl [H0]; · iexact H0
    iexact Hout
  iintro ⟨⟨%W', HO⟩, Hscr, HzS, HzV, Hout⟩
  iapply Hk
  unfold bodyPost Φ₁ Dat.owesAt Pipeline.owesWithin
  rw [show (dats m ρ 0 c).owed t0_0.succ = 0 from rfl]
  isplitl [Hscr HzS HzV Hidle HzB]
  · isplitl [Hscr]; · iexact Hscr
    isplitl [HzS]; · iexact HzS
    isplitl [HzV]; · iexact HzV
    isplitl [Hidle] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 100000 in
/-- The pipeline's obligation on the body of device `c`. -/
theorem body_obligation : BodyObligation (dats (F := F) m ρ 0 c) (defs₀ (F := F)) 𝒱₀ () Set.univ := fun t => by
  rw [fin_N t]
  rw [bigSep_W0, bigSep_W0]
  simp only [owns_whole_eq]
  show bodyPre' m ρ c ⊢ wpB c
    (cc0_body xM (Memref.isWhole_whole _) oM (Memref.isWhole_whole _) cM (Memref.isWhole_whole _) cc0_scratch1 cc0_scratch2) (fun _ => bodyPost m ρ c)
  rw [body_eq]
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.ArgmaxProof

end
-- ==== Proof.Order.lean ====
/-
# The largest value and its first row

A column is a function `x` of its rows. `Best x S v i` says that `v` is the largest value of `x` on the rows `S` and `i`
the number of the first row of `S` that has it. There is at most one such pair; the pair of a union of sets of rows comes
from the pairs of the parts, by either of the two ways the kernel joins pairs; and it is what a left fold of the
reference's comparison finds.
-/
module

public import Mathlib.Data.EReal.Basic
public import Mathlib.Data.Finset.Fold
public import Mathlib.Data.Fintype.Basic
public import Mathlib.Tactic.Linarith

@[expose] public section

noncomputable section

namespace Cert.ArgmaxProof

/-- A row's number as an extended real. -/
def num (n : ℕ) : EReal := ((n : ℝ) : EReal)

theorem num_lt {a b : ℕ} : Iff (num a < num b) (a < b) := by
  unfold num; rw [EReal.coe_lt_coe_iff, Nat.cast_lt]
theorem num_le {a b : ℕ} : Iff (num a ≤ num b) (a ≤ b) := by
  unfold num; rw [EReal.coe_le_coe_iff, Nat.cast_le]
theorem num_ne_top (a : ℕ) : num a ≠ ⊤ := EReal.coe_ne_top _

variable {R : ℕ}

/-- `v` is the largest value of `x` on `S`, and `i` the number of the first row of `S` with that value. -/
def Best (x : Fin R → EReal) (S : Set (Fin R)) (v i : EReal) : Prop :=
  ∃ n ∈ S, v = x n ∧ i = num n.val ∧ ∀ k ∈ S, x k ≤ x n ∧ (x k = x n → n.val ≤ k.val)

variable {x : Fin R → EReal}

/-- There is one such pair. -/
theorem Best.unique {S : Set (Fin R)} {v i v' i' : EReal} (h : Best x S v i) (h' : Best x S v' i') : v = v' ∧ i = i' := by
  obtain ⟨n, hn, rfl, rfl, H⟩ := h
  obtain ⟨k, hk, rfl, rfl, H'⟩ := h'
  have e : x n = x k := le_antisymm (H' n hn).1 (H k hk).1
  exact ⟨e, congrArg num (Nat.le_antisymm ((H k hk).2 e.symm) ((H' n hn).2 e))⟩

open Classical in
/-- The pair of a union of two sets of rows: the second's where it is larger, or equal with a smaller number. -/
theorem Best.join {S T : Set (Fin R)} {v i w j : EReal} (h : Best x S v i) (h' : Best x T w j) :
    Best x (S ∪ T) (if v < w ∨ (w = v ∧ j < i) then w else v) (if v < w ∨ (w = v ∧ j < i) then j else i) := by
  obtain ⟨n, hn, rfl, rfl, H⟩ := h
  obtain ⟨k, hk, rfl, rfl, H'⟩ := h'
  split
  next hc =>
    refine ⟨k, Or.inr hk, rfl, rfl, fun r hr => ?_⟩
    rcases hr with hr | hr
    · rcases hc with hc | ⟨he, hc⟩
      · exact ⟨(H r hr).1.trans hc.le, fun e => absurd ((H r hr).1.trans_lt hc) (e ▸ lt_irrefl _)⟩
      · rw [he]
        exact ⟨(H r hr).1, fun e => (num_lt.mp hc).le.trans ((H r hr).2 e)⟩
    · exact H' r hr
  next hc =>
    rw [not_or, not_and, not_lt] at hc
    refine ⟨n, Or.inl hn, rfl, rfl, fun r hr => ?_⟩
    rcases hr with hr | hr
    · exact H r hr
    · refine ⟨(H' r hr).1.trans hc.1, fun e => ?_⟩
      have ek : x k = x n := le_antisymm hc.1 (e ▸ (H' r hr).1)
      exact (num_le.mp (not_lt.mp (hc.2 ek))).trans ((H' r hr).2 (e.trans ek.symm))

/-- A fold of `max`: above every value, and one of them or the start. -/
theorem fold_max_spec {α K : Type*} [LinearOrder α] [DecidableEq K] (s : Finset K) (b : α) (f : K → α) :
    (∀ k ∈ s, f k ≤ s.fold max b f) ∧ (s.fold max b f = b ∨ ∃ k ∈ s, s.fold max b f = f k) ∧ b ≤ s.fold max b f := by
  induction s using Finset.induction_on with
  | empty => exact ⟨fun k hk => absurd hk (Finset.notMem_empty k), Or.inl rfl, le_refl _⟩
  | insert a s ha ih =>
    rw [Finset.fold_insert ha]
    refine ⟨fun k hk => ?_, ?_, ih.2.2.trans (le_max_right _ _)⟩
    · rcases Finset.mem_insert.mp hk with rfl | hk
      · exact le_max_left _ _
      · exact (ih.1 k hk).trans (le_max_right _ _)
    · rcases le_total (f a) (s.fold max b f) with h | h
      · rw [max_eq_right h]
        exact ih.2.1.imp id fun ⟨k, hk, e⟩ => ⟨k, Finset.mem_insert_of_mem hk, e⟩
      · rw [max_eq_left h]
        exact Or.inr ⟨a, Finset.mem_insert_self a s, rfl⟩

/-- A fold of `min`: below every value, and one of them or the start. -/
theorem fold_min_spec {α K : Type*} [LinearOrder α] [DecidableEq K] (s : Finset K) (b : α) (f : K → α) :
    (∀ k ∈ s, s.fold min b f ≤ f k) ∧ (s.fold min b f = b ∨ ∃ k ∈ s, s.fold min b f = f k) ∧ s.fold min b f ≤ b :=
  fold_max_spec (α := αᵒᵈ) s b f

/-- A fold of `max` from `⊥` over all of a type with an element is one of the values. -/
theorem fold_max_attained {K : Type*} [Fintype K] [DecidableEq K] (k₀ : K) (f : K → EReal) :
    ∃ k, Finset.univ.fold max ⊥ f = f k := by
  obtain ⟨h1, h2, -⟩ := fold_max_spec Finset.univ (⊥ : EReal) f
  rcases h2 with h2 | ⟨k, -, h2⟩
  · exact ⟨k₀, by rw [h2]; exact (le_bot_iff.mp (h2 ▸ h1 k₀ (Finset.mem_univ _))).symm⟩
  · exact ⟨k, h2⟩

open Classical in
/-- The pair of a union of a family of sets of rows: the largest of the values, and the smallest of the numbers that
    stand with it. -/
theorem Best.family {K : Type*} [Fintype K] [DecidableEq K] (k₀ : K) (S : K → Set (Fin R)) (v i : K → EReal)
    (h : ∀ k, Best x (S k) (v k) (i k)) :
    Best x (⋃ k, S k) (Finset.univ.fold max ⊥ v)
      (Finset.univ.fold min ⊤ fun k => if v k = Finset.univ.fold max ⊥ v then i k else ⊤) := by
  have hle : ∀ k, v k ≤ Finset.univ.fold max ⊥ v := fun k => (fold_max_spec Finset.univ (⊥ : EReal) v).1 k (Finset.mem_univ k)
  obtain ⟨a, ha⟩ := fold_max_attained k₀ v
  generalize Finset.univ.fold max ⊥ v = M at *
  obtain ⟨g1, g2, -⟩ := fold_min_spec Finset.univ (⊤ : EReal) (fun k => if v k = M then i k else ⊤)
  generalize Finset.univ.fold min ⊤ (fun k => if v k = M then i k else ⊤) = I at *
  have hIa : I ≤ i a := by simpa [ha] using g1 a (Finset.mem_univ a)
  have hIt : I ≠ ⊤ := by
    obtain ⟨n, -, -, hi, -⟩ := h a
    exact fun e => num_ne_top n.val (top_le_iff.mp (e ▸ hi ▸ hIa))
  obtain ⟨b, hbM, hb⟩ : ∃ b, v b = M ∧ I = i b := by
    rcases g2 with g2 | ⟨b, -, hb⟩
    · exact absurd g2 hIt
    · by_cases e : v b = M
      · exact ⟨b, e, by simpa [e] using hb⟩
      · exact absurd (by simpa [e] using hb) hIt
  obtain ⟨n, hn, hv, hi, H⟩ := h b
  refine ⟨n, Set.mem_iUnion.mpr ⟨b, hn⟩, hbM ▸ hv, hb.trans hi, fun r hr => ?_⟩
  obtain ⟨k, hk⟩ := Set.mem_iUnion.mp hr
  obtain ⟨n', hn', hv', hi', H'⟩ := h k
  have hx : x n = M := hv.symm.trans hbM
  refine ⟨((H' r hk).1.trans (hv' ▸ hle k)).trans hx.ge, fun e => ?_⟩
  have ek : v k = M := le_antisymm (hle k) (by rw [← hx, ← e, hv']; exact (H' r hk).1)
  have h1 : I ≤ i k := by simpa [ek] using g1 k (Finset.mem_univ k)
  have h2 : n.val ≤ n'.val := num_le.mp (hi ▸ hb ▸ hi' ▸ h1)
  exact h2.trans ((H' r hk).2 (e.trans (hx.trans (ek.symm.trans hv'))))

/-- A left fold of a comparison of pairs that keeps one of the two, the larger value first and the smaller number next:
    it ends at one of the pairs, above the rest. -/
theorem foldl_spec {α β : Type*} (le : α × β → α × β → Prop) (hr : ∀ p, le p p) (ht : ∀ p q r, le p q → le q r → le p r)
    (f : α × β → α × β → α × β) (hf : ∀ p q, (f p q = p ∧ le q p) ∨ (f p q = q ∧ le p q)) (l : List (α × β)) (p : α × β) :
    (l.foldl f p = p ∨ l.foldl f p ∈ l) ∧ le p (l.foldl f p) ∧ ∀ q ∈ l, le q (l.foldl f p) := by
  induction l generalizing p with
  | nil => exact ⟨Or.inl rfl, hr p, fun q hq => absurd hq List.not_mem_nil⟩
  | cons a l ih =>
    obtain ⟨h1, h2, h3⟩ := ih (f p a)
    rw [List.foldl_cons]
    rcases hf p a with ⟨e, h⟩ | ⟨e, h⟩ <;> rw [e] at h1 h2 h3 ⊢
    · refine ⟨h1.imp id (List.mem_cons_of_mem a), h2, fun q hq => ?_⟩
      rcases List.mem_cons.mp hq with rfl | hq
      · exact ht _ _ _ h h2
      · exact h3 q hq
    · refine ⟨Or.inr (h1.elim (fun h => by rw [h]; exact List.mem_cons_self) (List.mem_cons_of_mem a)), ht _ _ _ h h2, fun q hq => ?_⟩
      rcases List.mem_cons.mp hq with rfl | hq
      · exact h2
      · exact h3 q hq

end Cert.ArgmaxProof

end
-- ==== Proof.Value.lean ====
/-
# What the kernel computes at the extended reals

Column by column: each device's slot holds its block's largest value with the number of the first row that has it; the
chunks of eight slots and then the four chunks are joined pair by pair; the result is the whole column's pair.
-/
module

public import proofs.«01_k».proof.Proof.Run
public import proofs.«01_k».proof.Proof.Order
public import Idealize.ShloMosaic.Lib.Pointwise
public import Idealize.ShloMosaic.Lib.Layout

@[expose] public section

noncomputable section

namespace Cert.ArgmaxProof

open Cert.KernelIdeal Cert.KernelIdeal.Gen
open Idealize.ShloMosaic Idealize.ShloMosaic.TcCoe Idealize.SL.Sem

theorem bits_bot16 : Ideal.ofBits .bf16 0xFF80#16 = ⊥ := by simp [Ideal.ofBits, Ideal.ieee]
theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-- A 32-bit word's value as an extended real. -/
theorem word_num {b : BitVec 32} {n : ℕ} (h : b.toInt = n) : FloatOps.sitofp (F := Ideal) .f32 b = num n := by
  show ((b.toInt : ℝ) : EReal) = num n
  unfold num; rw [h]; norm_cast

theorem toInt_ofNat {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-! ## One block -/

/-- Row `r` of block `d`, in the whole column. -/
def row (d : Fin 32) (r : Fin 512) : Fin 16384 := ⟨d.val * 512 + r.val, by omega⟩

/-- The rows of block `d`. -/
def rows (d : Fin 32) : Set (Fin 16384) := Set.range (row d)

theorem minsi_toInt (a b : BitVec 32) : (IntOp.minsi a b).toInt = min a.toInt b.toInt := by
  unfold IntOp.minsi
  rw [BitVec.slt]
  split <;> simp_all <;> omega

instance : Std.Commutative (IntOp.minsi (w := 32)) := ⟨fun a b => BitVec.eq_of_toInt_eq (by rw [minsi_toInt, minsi_toInt, min_comm])⟩
instance : Std.Associative (IntOp.minsi (w := 32)) := ⟨fun a b c => BitVec.eq_of_toInt_eq (by simp only [minsi_toInt, min_assoc])⟩

/-- The smallest word of a family, as integers. -/
theorem fold_minsi (b : BitVec 32) (f : Fin 512 → BitVec 32) :
    (Finset.univ.fold IntOp.minsi b f).toInt = Finset.univ.fold min b.toInt fun r => (f r).toInt :=
  (Finset.fold_hom (m := BitVec.toInt) minsi_toInt).symm

theorem pay4_apply (B : Vec Ideal S512x512 .bf16) (l : Fin 512) :
    (k0_pay4 (F := Ideal) B (ix1 l) : EReal) = Finset.univ.fold max ⊥ fun r : Fin 512 => (B (ix2 r l) : EReal) := by
  pointwise [k0_pay4, k0_pay3]
  rw [bits_bot16]

theorem pay5_apply (p : BitVec 32) (B : Vec Ideal S512x512 .bf16) (l : Fin 512) :
    (k0_pay5 (F := Ideal) p B (ix1 l) : EReal) = FloatOps.sitofp (F := Ideal) .f32 (IntOp.addi
      (Finset.univ.fold IntOp.minsi 2147483647#32 fun r : Fin 512 =>
        if (B (ix2 r l) : EReal) = (k0_pay4 (F := Ideal) B (ix1 l) : EReal) then BitVec.ofNat 32 r.val else 1073741824#32)
      (Scalar.muli p 512#32)) := by
  pointwise [k0_pay5, k0_pay3]

/-- The smallest of the words at the rows that satisfy `P` is the first such row's number. -/
theorem first_row (P : Fin 512 → Prop) [DecidablePred P] (h : ∃ r, P r) :
    ∃ r, P r ∧ (∀ k, P k → r.val ≤ k.val)
      ∧ (Finset.univ.fold IntOp.minsi 2147483647#32 fun r : Fin 512 => if P r then BitVec.ofNat 32 r.val else 1073741824#32) = BitVec.ofNat 32 r.val := by
  obtain ⟨g1, g2, -⟩ := fold_min_spec Finset.univ (2147483647#32 : BitVec 32).toInt
    (fun r : Fin 512 => (if P r then BitVec.ofNat 32 r.val else 1073741824#32 : BitVec 32).toInt)
  rw [← fold_minsi 2147483647#32] at g1 g2
  generalize (Finset.univ.fold IntOp.minsi 2147483647#32 fun r : Fin 512 => if P r then BitVec.ofNat 32 r.val else 1073741824#32) = M at *
  have hn : ∀ r : Fin 512, (BitVec.ofNat 32 r.val).toInt = r.val := fun r => toInt_ofNat (by omega)
  have hle : ∀ k, P k → M.toInt ≤ k.val := fun k hk => by have := g1 k (Finset.mem_univ k); rwa [if_pos hk, hn] at this
  obtain ⟨r₀, h₀⟩ := h
  have hM : M.toInt < 512 := (hle r₀ h₀).trans_lt (by exact_mod_cast r₀.isLt)
  rcases g2 with g2 | ⟨r, -, g2⟩
  · rw [g2] at hM; exact absurd hM (by decide)
  · by_cases hr : P r
    · rw [if_pos hr] at g2
      exact ⟨r, hr, fun k hk => by have := hle k hk; rw [g2, hn] at this; exact_mod_cast this, BitVec.eq_of_toInt_eq g2⟩
    · rw [if_neg hr] at g2; rw [g2] at hM; exact absurd hM (by decide)

theorem pos_eq (d : Dev nD) : pos d = BitVec.ofNat 32 d.val := by revert d; decide +kernel

/-- Device `d`'s row of maxima and row of numbers, at a column, are the pair of the rows of its block. -/
theorem best_block (x : Fin 16384 → EReal) (d : Dev nD) (B : Vec Ideal S512x512 .bf16) (l : Fin 512)
    (hB : ∀ r : Fin 512, (B (ix2 r l) : EReal) = x (row d r)) :
    Best x (rows d) (k0_pay4 (F := Ideal) B (ix1 l)) (k0_pay5 (F := Ideal) (pos d) B (ix1 l)) := by
  have hv := pay4_apply B l
  rw [pay5_apply, pos_eq]
  generalize (k0_pay4 (F := Ideal) B (ix1 l) : EReal) = M at *
  have hle : ∀ r : Fin 512, (B (ix2 r l) : EReal) ≤ M := fun r =>
    hv ▸ (fold_max_spec Finset.univ (⊥ : EReal) fun r : Fin 512 => (B (ix2 r l) : EReal)).1 r (Finset.mem_univ r)
  obtain ⟨a, ha⟩ := fold_max_attained (0 : Fin 512) fun r : Fin 512 => (B (ix2 r l) : EReal)
  obtain ⟨r, hr, hmin, e⟩ := first_row (fun r : Fin 512 => (B (ix2 r l) : EReal) = M) ⟨a, (hv.trans ha).symm⟩
  beta_reduce at e
  refine ⟨row d r, ⟨r, rfl⟩, by rw [← hB, hr], ?_, ?_⟩
  · rw [e]
    refine word_num ?_
    have hd : d.val < 32 := d.isLt
    have : IntOp.addi (BitVec.ofNat 32 r.val) (Scalar.muli (BitVec.ofNat 32 d.val) 512#32) = BitVec.ofNat 32 (row d r).val := by
      show BitVec.ofNat 32 r.val + BitVec.ofNat 32 d.val * BitVec.ofNat 32 512 = _
      rw [← BitVec.ofNat_mul, ← BitVec.ofNat_add, Nat.add_comm]; rfl
    rw [this, toInt_ofNat (by have := (row d r).isLt; omega)]
  · rintro _ ⟨k, rfl⟩
    rw [← hB, ← hB, hr]
    exact ⟨hle k, fun h => Nat.add_le_add_left (hmin k h) _⟩

/-! ## Chunks -/

theorem pay9_apply (a : Vec Ideal S8x1x512 .f32) (l : Fin 512) :
    (k0_pay9 (F := Ideal) a (ix1 l) : EReal) = Finset.univ.fold max ⊥ fun s : Fin 8 => (a (ix3 s (0 : Fin 1) l) : EReal) := by
  pointwise [k0_pay9, k0_pay8]
  rw [bits_bot]

open Classical in
theorem pay10_apply (a b : Vec Ideal S8x1x512 .f32) (l : Fin 512) :
    (k0_pay10 (F := Ideal) a b (ix1 l) : EReal) = Finset.univ.fold min ⊤ fun s : Fin 8 =>
      if (a (ix3 s (0 : Fin 1) l) : EReal) = Finset.univ.fold max ⊥ (fun s : Fin 8 => (a (ix3 s (0 : Fin 1) l) : EReal)) then (b (ix3 s (0 : Fin 1) l) : EReal) else ⊤ := by
  pointwise [k0_pay10, k0_pay9, k0_pay8]
  rw [bits_bot, bits_top]

/-- Eight slots' pairs make the chunk's pair. -/
theorem best_chunk {x : Fin 16384 → EReal} (S : Fin 8 → Set (Fin 16384)) (a b : Vec Ideal S8x1x512 .f32) (l : Fin 512)
    (h : ∀ s : Fin 8, Best x (S s) (a (ix3 s (0 : Fin 1) l)) (b (ix3 s (0 : Fin 1) l))) :
    Best x (⋃ s, S s) (k0_pay9 (F := Ideal) a (ix1 l)) (k0_pay10 (F := Ideal) a b (ix1 l)) := by
  rw [pay9_apply, pay10_apply]
  exact Best.family (0 : Fin 8) S (fun s => (a (ix3 s (0 : Fin 1) l) : EReal)) (fun s => (b (ix3 s (0 : Fin 1) l) : EReal)) h

theorem select_join (p q r : Bool) (y z : EReal) :
    Scalar.select (IntOp.ori (BitVec.ofBool p) (IntOp.andi (BitVec.ofBool q) (BitVec.ofBool r))) y z = if p ∨ (q ∧ r) then y else z := by
  cases p <;> cases q <;> cases r <;> rfl

open Classical in
/-- One more chunk joined to what was found so far: the kernel's comparison, -/
theorem pay15_apply (v w : FVec Ideal S512 .f32) (a b : Vec Ideal S8x1x512 .f32) (l : Fin 512) :
    (k0_pay15 (F := Ideal) v w a b (ix1 l) : EReal)
      = if (v (ix1 l) : EReal) < k0_pay9 (F := Ideal) a (ix1 l) ∨ ((k0_pay9 (F := Ideal) a (ix1 l) : EReal) = v (ix1 l) ∧ (k0_pay10 (F := Ideal) a b (ix1 l) : EReal) < w (ix1 l))
        then (k0_pay9 (F := Ideal) a (ix1 l) : EReal) else v (ix1 l) := by
  pointwise [k0_pay15, k0_pay14]
  rw [show k0_pay12 (F := Ideal) a = k0_pay9 a from rfl, show k0_pay13 (F := Ideal) a b = k0_pay10 a b from rfl, select_join]
  simp only [decide_eq_true_eq]

open Classical in
theorem pay16_apply (v w : FVec Ideal S512 .f32) (a b : Vec Ideal S8x1x512 .f32) (l : Fin 512) :
    (k0_pay16 (F := Ideal) v w a b (ix1 l) : EReal)
      = if (v (ix1 l) : EReal) < k0_pay9 (F := Ideal) a (ix1 l) ∨ ((k0_pay9 (F := Ideal) a (ix1 l) : EReal) = v (ix1 l) ∧ (k0_pay10 (F := Ideal) a b (ix1 l) : EReal) < w (ix1 l))
        then (k0_pay10 (F := Ideal) a b (ix1 l) : EReal) else w (ix1 l) := by
  pointwise [k0_pay16, k0_pay14]
  rw [show k0_pay12 (F := Ideal) a = k0_pay9 a from rfl, show k0_pay13 (F := Ideal) a b = k0_pay10 a b from rfl, select_join]
  simp only [decide_eq_true_eq]

/-- and the pair it leaves. -/
theorem best_more {x : Fin 16384 → EReal} {S T : Set (Fin 16384)} (v w : FVec Ideal S512 .f32) (a b : Vec Ideal S8x1x512 .f32) (l : Fin 512)
    (h : Best x S (v (ix1 l)) (w (ix1 l))) (h' : Best x T (k0_pay9 (F := Ideal) a (ix1 l)) (k0_pay10 (F := Ideal) a b (ix1 l))) :
    Best x (S ∪ T) (k0_pay15 (F := Ideal) v w a b (ix1 l)) (k0_pay16 (F := Ideal) v w a b (ix1 l)) := by
  rw [pay15_apply, pay16_apply]
  exact h.join h'

/-- The kernel's two rows are three such joins. -/
theorem resV_eq (a0 b0 a1 b1 a2 b2 a3 b3 : Vec Ideal S8x1x512 .f32) : resV (F := Ideal) a0 b0 a1 b1 a2 b2 a3 b3
    = k0_pay15 (k0_pay15 (k0_pay15 (k0_pay9 a0) (k0_pay10 a0 b0) a1 b1) (k0_pay16 (k0_pay9 a0) (k0_pay10 a0 b0) a1 b1) a2 b2)
        (k0_pay16 (k0_pay15 (k0_pay9 a0) (k0_pay10 a0 b0) a1 b1) (k0_pay16 (k0_pay9 a0) (k0_pay10 a0 b0) a1 b1) a2 b2) a3 b3 := rfl
theorem resI_eq (a0 b0 a1 b1 a2 b2 a3 b3 : Vec Ideal S8x1x512 .f32) : resI (F := Ideal) a0 b0 a1 b1 a2 b2 a3 b3
    = k0_pay16 (k0_pay15 (k0_pay15 (k0_pay9 a0) (k0_pay10 a0 b0) a1 b1) (k0_pay16 (k0_pay9 a0) (k0_pay10 a0 b0) a1 b1) a2 b2)
        (k0_pay16 (k0_pay15 (k0_pay9 a0) (k0_pay10 a0 b0) a1 b1) (k0_pay16 (k0_pay9 a0) (k0_pay10 a0 b0) a1 b1) a2 b2) a3 b3 := rfl

end Cert.ArgmaxProof

end
-- ==== Proof.Launch.lean ====
/-
# The launch: from the semaphores at zero to the devices' runs, and back

The launch mints one round of every cell, deals each duty's token to the device that pays it, and accounts for what the
devices owe one another: 31 units to every barrier, one copy's credit to every receive cell.
-/
module

public import proofs.«01_k».proof.Proof.Run
public import Idealize.ShloMosaic.Lib.Pipeline.CollectiveSegs

@[expose] public section

noncomputable section

namespace Cert.ArgmaxProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- The two semaphore arrays of the kernel, of 32 each. -/
abbrev osem : Fin 32 ⊕ Fin 32 → SemLoc sig
  | .inl i => .dma (sendSem i)
  | .inr i => .dma (recvSem i)

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by decide +kernel

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def xCells : Finset (GSem nD τ sig) := Finset.univ.map ⟨kcell, kcell_injective⟩

/-- The duties of one device's cells: 31 of its barrier, one of each send and each receive cell. -/
abbrev TK : Type := Fin 31 ⊕ (Fin 31 ⊕ Fin 31)
abbrev tsem : TK → SemLoc sig × Fin 31
  | .inl s => (.reg barS, s)
  | .inr (.inl s) => (.dma (sendSem s.succ), 0)
  | .inr (.inr s) => (.dma (recvSem s.succ), 0)
theorem tsem_injective : Function.Injective tsem := by decide +kernel

abbrev tokOf (cj : Dev nD × TK) : GSem nD τ sig × ℕ × Fin 31 := (((cj.1 : Thread nD τ), (tsem cj.2).1), 0, (tsem cj.2).2)
theorem tokOf_injective : Function.Injective (tokOf : Dev nD × TK → GSem nD τ sig × ℕ × Fin 31) := by
  rintro ⟨c, j⟩ ⟨c', j'⟩ h
  have h1 : c = c' := congrArg (fun x : GSem nD τ sig × ℕ × Fin 31 => x.1.1.1) h
  have h2 : j = j' := tsem_injective (Prod.ext (congrArg (fun x : GSem nD τ sig × ℕ × Fin 31 => x.1.2) h) (congrArg (fun x : GSem nD τ sig × ℕ × Fin 31 => x.2.2) h))
  rw [h1, h2]
def xToks : Finset (GSem nD τ sig × ℕ × Fin 31) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop((bigSep Finset.univ fun s => dutyTok EX (barCell c) 0 s) ∗ (bigSep Finset.univ fun s => dutyTok EX (sendCell c s) 0 0)
    ∗ bigSep Finset.univ fun s => dutyTok EX (recvCell c s) 0 0)

/-- What the launch deals device `c`. -/
def G (c : Dev nD) : sProp 𝕄 :=
  iprop((bigSep Finset.univ fun k : CK => roundState EX (xRd m ρ) (kcell (c, k)) 0)
    ∗ (bigSep Finset.univ fun k : CK => iprop(atPos EX (kcell (c, k)) 0 ∅ 0 ∗ reached EX (kcell (c, k)) 0)) ∗ toks c)

/-- What becomes of it: the ghost state the body starts from. -/
def G' (c : Dev nD) : sProp 𝕄 := iprop(∃ K, ghost m ρ K c)

theorem bigSep_CK (Φ : CK → sProp 𝕄) : bigSep Finset.univ Φ
    = iprop(Φ (.inl ()) ∗ (bigSep Finset.univ fun s => Φ (.inr (.inl s))) ∗ bigSep Finset.univ fun s => Φ (.inr (.inr s))) := by
  rw [bigSep_univ_sum, bigSep_univ_sum, Finset.univ_unique, bigSep_singleton]; rfl

theorem bigSep_TK (Φ : TK → sProp 𝕄) : bigSep Finset.univ Φ
    = iprop((bigSep Finset.univ fun s => Φ (.inl s)) ∗ (bigSep Finset.univ fun s => Φ (.inr (.inl s))) ∗ bigSep Finset.univ fun s => Φ (.inr (.inr s))) := by
  rw [bigSep_univ_sum, bigSep_univ_sum]; rfl

theorem fund_x : BI.own (EX (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : CK => Φ (kcell (c, k)) := by
    unfold xCells; rw [bigSep_map, bigSep_univ_prod]; rfl
  have hT : bigSep xToks (fun x => (dutyTok EX x.1 x.2.1 x.2.2 : sProp 𝕄)) = bigSep Finset.univ fun c : Dev nD => toks c := by
    unfold xToks; rw [bigSep_map, bigSep_univ_prod]
    exact bigSep_congr fun c _ => by unfold toks; rw [bigSep_TK]; rfl
  iintro HX
  imod (Rounds.fund EX (xRd m ρ) xCells xToks) $$ HX with ⟨Hst, Hr, Hat, Htok⟩
  imodintro
  ihave Hst' := (Entails.of_eq (hX fun g => roundState EX (xRd m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

/-- The kernel's own semaphores: the unused two, the send cells, the receive cells. -/
theorem ownSems0_eq (c : Dev nD) : (Pipeline.ownSems0 (Ix := Unit) (Name := ℕ) (U := UU) (Lvl := ℕ) (Val := Elt F) (τ := τ) osem c : sProp 𝕄)
    = iprop((semVal ((c : Thread nD τ), .dma (sendSem 0)) 0 ∗ bigSep Finset.univ fun s => semVal (sendCell c s) 0)
      ∗ semVal ((c : Thread nD τ), .dma (recvSem 0)) 0 ∗ bigSep Finset.univ fun s => semVal (recvCell c s) 0) := by
  unfold Pipeline.ownSems0
  rw [bigSep_univ_sum, bigSep_fin_cons, bigSep_fin_cons]; rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ idle c) : sProp 𝕄) := by
  rw [ownSems0_eq, unscopedSems0_eq, bigSep_CK]
  unfold idle
  iintro ⟨⟨⟨HS0, HS⟩, HV0, HV⟩, HB⟩
  isplitr [HS0 HV0]
  · isplitl [HB]; · iexact HB
    isplitl [HS] <;> iassumption
  isplitl [HS0] <;> iassumption

/-- One device's cells, put under invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (xRd m ρ) κ (kcell (c, k))))
          ∗ (bigSep Finset.univ fun k => iprop(atPos EX (kcell (c, k)) 0 ∅ 0 ∗ reached EX (kcell (c, k)) 0)) ∗ toks c ∗ idle c) := by
  unfold G
  iintro ⟨Hos, Hus, Hst, Hat, Htok⟩
  ihave Hv := (sems0_eq (F := F) c) $$ [Hos Hus]
  · isplitl [Hos] <;> iassumption
  icases Hv with ⟨Hv, Hid⟩
  imod (show iprop((bigSep Finset.univ fun k : CK => semVal (kcell (c, k)) 0) ∗ bigSep Finset.univ fun k : CK => roundState EX (xRd m ρ) (kcell (c, k)) 0)
      ⊢ (|={Set.univ}=> bigSep Finset.univ fun k => iprop(∃ κ : ℕ, cellInv EX (xRd m ρ) κ (kcell (c, k))) : sProp 𝕄) from by
        rw [← bigSep_sep']
        exact (bigSep_mono fun k _ => (Rounds.body_intro EX (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens, dealt -/

/-- Exchange `s` as a permutation of the devices. -/
def turn (s : Fin 31) : Dev nD ≃ Dev nD := ⟨fun c => src c s, fun c => tgt c s, fun c => tgt_src c s, fun c => src_tgt c s⟩

/-- A family over devices and exchanges, each exchange turned by its own permutation. -/
theorem bigSep_turn (e : Fin 31 → Dev nD ≃ Dev nD) (Φ : Dev nD → Fin 31 → sProp 𝕄) :
    (bigSep Finset.univ fun c : Dev nD => bigSep Finset.univ fun s => Φ c s) = bigSep Finset.univ fun c : Dev nD => bigSep Finset.univ fun s => Φ (e s c) s := by
  rw [bigSep_univ_comm, bigSep_univ_comm (fun (c : Dev nD) (s : Fin 31) => Φ (e s c) s)]
  exact bigSep_congr fun s _ => bigSep_univ_equiv (e s) fun c => Φ c s

/-- Every duty's token to the device that pays it. -/
def payToks (c : Dev nD) : sProp 𝕄 :=
  iprop((bigSep Finset.univ fun s => dutyTok EX (barCell (src c s)) 0 s) ∗ (bigSep Finset.univ fun s => dutyTok EX (sendCell c s) 0 0)
      ∗ bigSep Finset.univ fun s => dutyTok EX (recvCell (tgt c s) s) 0 0)

theorem toks_around : (bigSep Finset.univ fun c : Dev nD => (toks c : sProp 𝕄)) = bigSep Finset.univ fun c : Dev nD => payToks c := by
  unfold toks payToks
  rw [bigSep_sep', bigSep_sep', bigSep_sep', bigSep_sep',
    bigSep_turn turn (fun c s => (dutyTok EX (barCell c) 0 s : sProp 𝕄)),
    bigSep_turn (fun s => (turn s).symm) (fun c s => (dutyTok EX (recvCell c s) 0 0 : sProp 𝕄))]
  rfl

theorem linear_eq (c : Dev nD) : (linear c : sProp 𝕄) = iprop((bigSep Finset.univ fun k : CK => atPos EX (kcell (c, k)) 0 ∅ 0) ∗ payToks c ∗ idle c) := by
  unfold linear payToks; rw [bigSep_CK]

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m ρ K ∗ linear c) ⊢ G' m ρ c := by
  unfold G' ghost
  iintro H
  iexists K; iexact H

theorem regroup :
    (bigSep Finset.univ fun c : Dev nD => iprop((bigSep Finset.univ fun k => iprop(∃ κ : ℕ, cellInv EX (xRd m ρ) κ (kcell (c, k))))
          ∗ (bigSep Finset.univ fun k => iprop(atPos EX (kcell (c, k)) 0 ∅ 0 ∗ reached EX (kcell (c, k)) 0)) ∗ toks c ∗ idle c) : sProp 𝕄)
      ⊢ bigSep Finset.univ (G' m ρ) := by
  rw [bigSep_sep', bigSep_sep', bigSep_sep', toks_around, ← bigSep_univ_prod (fun ck : Dev nD × CK => iprop(∃ κ : ℕ, cellInv EX (xRd m ρ) κ (kcell ck))),
    bigSep_congr (s := Finset.univ) (fun (c : Dev nD) _ => bigSep_sep' Finset.univ (fun k : CK => (atPos EX (kcell (c, k)) 0 ∅ 0 : sProp 𝕄)) (fun k => reached EX (kcell (c, k)) 0)),
    bigSep_sep', ← bigSep_univ_prod (fun ck : Dev nD × CK => (reached EX (kcell ck) 0 : sProp 𝕄))]
  iintro ⟨HI, ⟨Hat, #HR⟩, Htok, Hid⟩
  ihave HK := (BI.bigSep_exists_pi Finset.univ (fun (ck : Dev nD × CK) (κ : ℕ) => (cellInv EX (xRd m ρ) κ (kcell ck) : sProp 𝕄))) $$ HI
  icases HK with ⟨%K, #HI⟩
  iapply (bigSep_with (R := records m ρ K) fun c _ => ghost_intro m ρ K c)
  isplitr
  · unfold records; isplitl; · iexact HI
    iexact HR
  · rw [bigSep_congr (s := Finset.univ) fun (c : Dev nD) _ => linear_eq (F := F) c, bigSep_sep', bigSep_sep']
    isplitl [Hat]; · iexact Hat
    isplitl [Htok] <;> iassumption

/-- Every device's semaphores at once become every device's ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem owedR_sum (d : Dev nD) : owedR d sendL = ∑ s : Fin 31, tallyAt (recvCell (tgt d s) s) () N := by
  rw [sendL_univ, List.sum_toFinset _ sendL_nodup]; rfl
theorem owedB_sum (d : Dev nD) : owedB d sigL = ∑ s : Fin 31, tallyAt (barCell (src d s)) () 1 := by
  rw [sigL_univ, List.sum_toFinset _ sigL_nodup]; rfl

theorem recv_ne_bar (d c : Dev nD) (s : Fin 31) : recvCell d s ≠ barCell c := fun h => by cases congrArg Prod.snd h
theorem bar_eq_iff {a b : Dev nD} : Iff (barCell a = barCell b) (a = b) :=
  ⟨fun h => congrArg (fun g : GSem nD τ sig => g.1.1) h, fun h => h ▸ rfl⟩
theorem recv_eq_iff {a b : Dev nD} {s s' : Fin 31} : Iff (recvCell a s = recvCell b s') (a = b ∧ s = s') := by
  refine ⟨fun h => ⟨congrArg (fun g : GSem nD τ sig => g.1.1) h, recv_inj (SemLoc.dma.inj (congrArg Prod.snd h))⟩, ?_⟩
  rintro ⟨rfl, rfl⟩; rfl

/-- What device `d` owes device `c`'s barrier: a unit for each exchange that turns `d` to `c`. -/
theorem owed_bar (d c : Dev nD) : O₀ d (barCell c) () = ∑ s : Fin 31, if d = tgt c s then 1 else 0 := by
  unfold O₀
  rw [owedR_sum, owedB_sum, Pi.add_apply, Finsupp.add_apply, Finset.sum_apply, Finset.sum_apply, Finsupp.finset_sum_apply, Finsupp.finset_sum_apply,
    Finset.sum_eq_zero fun s _ => by rw [tallyAt_ne_cell (recv_ne_bar _ _ _).symm, Finsupp.zero_apply], Nat.zero_add]
  refine Finset.sum_congr rfl fun s _ => ?_
  rw [tallyAt_apply]
  refine if_congr ?_ rfl rfl
  constructor
  · rintro ⟨h, -⟩; rw [bar_eq_iff.mp h, tgt_src]
  · rintro rfl; exact ⟨by rw [src_tgt], rfl⟩

/-- What device `d` owes device `c`'s receive cell of exchange `s`: a credit, if `d` is the sender. -/
theorem owed_recv (d c : Dev nD) (s : Fin 31) : O₀ d (recvCell c s) () = if d = src c s then N else 0 := by
  unfold O₀
  rw [owedR_sum, owedB_sum, Pi.add_apply, Finsupp.add_apply, Finset.sum_apply, Finset.sum_apply, Finsupp.finset_sum_apply, Finsupp.finset_sum_apply]
  rw [Finset.sum_eq_zero (f := fun s' : Fin 31 => (tallyAt (barCell (src d s')) () 1 : CellTallies nD τ sig Unit) (recvCell c s) ())
    fun s' _ => by rw [tallyAt_ne_cell (recv_ne_bar _ _ _), Finsupp.zero_apply], Nat.add_zero, Finset.sum_eq_single s]
  · rw [tallyAt_apply]
    refine if_congr ?_ rfl rfl
    constructor
    · rintro ⟨h, -⟩; rw [(recv_eq_iff.mp h).1, src_tgt]
    · rintro rfl; exact ⟨by rw [tgt_src], rfl⟩
  · intro s' _ hs
    rw [tallyAt_apply, if_neg fun h => hs (recv_eq_iff.mp h.1).2.symm]
  · exact fun h => absurd (Finset.mem_univ _) h

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun s _ => (Finset.sum_ite_eq' Finset.univ (tgt c s) fun _ => 1).trans (if_pos (Finset.mem_univ _)), Finset.sum_const, Finset.card_univ, Fintype.card_fin]
  rfl

theorem launch_recv (c : Dev nD) (s : Fin 31) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (src c s) fun _ => N,
    if_pos (Finset.mem_univ _)]

/-- The semaphores others owe credit to. -/
def owedSem : Fin 31 ↪ SemLoc sig := ⟨fun s => .dma (recvSem s.succ), fun _ _ h => recv_inj (SemLoc.dma.inj h)⟩

theorem creds (c : Dev nD) :
    (Pipeline.launchCred O₀ c : sProp 𝕄) ⊢ iprop(cred (tallyAt (barCell c) () 31) ∗ bigSep Finset.univ fun s => cred (tallyAt (recvCell c s) () N)) := by
  unfold Pipeline.launchCred
  rw [bigSep_univ_at _ (SemLoc.reg barS), launch_bar]
  refine sep_mono_right ?_
  rw [show (bigSep Finset.univ fun s => cred (tallyAt (recvCell c s) () N) : sProp 𝕄)
      = bigSep (Finset.univ.map owedSem) fun sm => cred (tallyOn ((c : Thread nD τ), sm) (launchCredit (Pipeline.owing O₀) 0 ((c : Thread nD τ), sm))) from by
    rw [bigSep_map]
    exact bigSep_congr fun s _ => by rw [← launch_recv]; rfl]
  refine bigSep_subset fun sm hsm => ?_
  obtain ⟨s, -, rfl⟩ := Finset.mem_map.mp hsm
  exact Finset.mem_erase.mpr ⟨fun h => (by cases h), Finset.mem_univ _⟩

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ idle
  iintro ⟨Hr, HzS, HzV, ⟨HS0, HV0⟩, HzB⟩
  isplitl [HzB]; · iexact HzB
  isplitl [HzS HzV HS0 HV0]
  · isplitl [HzS HS0]
    · isplitl [HS0] <;> iassumption
    · isplitl [HV0] <;> iassumption
  iexists (comm m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters: every weakly fair execution on the 32 devices
    terminates, with each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.ArgmaxProof

end
-- ==== Proof.Column.lean ====
/-
# A whole column

The devices' blocks are the blocks of one array `X`. Whatever device a result lies on, its two rows are, column by column,
the largest value of the column of `X` and the number of the first row that has it.
-/
module

public import proofs.«01_k».proof.Proof.Value
public import proofs.«01_k».proof.Proof.Launch

@[expose] public section

noncomputable section

namespace Cert.ArgmaxProof

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The array that the devices' blocks make up. -/
abbrev Whole : Type := Vec Ideal ⟨2, ![16384, 512]⟩ .bf16

/-- Column `l` of it. -/
def col (X : Whole) (l : Fin 512) : Fin 16384 → EReal := fun n => X (ix2 n l)

/-- The kernel's arguments hold the blocks of `X`. -/
def Blocks (X : Whole) : Prop :=
  ∀ c : Dev nD, m ((c.tc : Thread nD τ).loc main_arg0) = Layout.block ⟨2, ![512, 512]⟩ ⟨2, ![16384, 512]⟩ 0 32 c X

/-- The window over the argument is the whole argument. -/
theorem xstg_eq (c : Dev nD) : xstg m ρ c = m ((c : Thread nD τ).loc main_arg0) :=
  Memref.read_access_unit_zero (Elt Ideal) main_arg0 (funext fun a => by fin_cases a <;> decide) (fun a => by fin_cases a <;> decide) _

theorem xin_eq (c : Dev nD) : xin m ρ c = m ((c : Thread nD τ).loc main_arg0) :=
  (Memref.readAt_unit_zero (Elt Ideal) cc0_stg0_0 (funext fun a => by fin_cases a <;> rfl) _ _).trans (xstg_eq m ρ c)

/-- What a device loads of its argument is its block's rows of `X`. -/
theorem xin_apply {X : Whole} (hX : Blocks m X) (c : Dev nD) (r l : Fin 512) : xin m ρ c (ix2 r l) = col X l (row c r) := by
  rw [xin_eq, hX c, Layout.block_apply]
  unfold col
  refine congrArg X (funext fun a => Fin.ext ?_)
  fin_cases a <;> rfl

/-! ## The slots -/

theorem own_val (d : Dev nD) (i : S32x2x512.Idx) (h : (i 1).val = 0) : own m ρ d i = k0_pay4 (xin m ρ d) (ix1 (i 2)) := by
  unfold own; rw [if_pos h]
  show k0_pay6 (xin m ρ d) (ix3 (0 : Fin 1) (0 : Fin 1) (i 2)) = _
  generalize xin m ρ d = B
  generalize (i 2) = l
  pointwise [k0_pay6]

theorem own_idx (d : Dev nD) (i : S32x2x512.Idx) (h : (i 1).val = 1) : own m ρ d i = k0_pay5 (pos d) (xin m ρ d) (ix1 (i 2)) := by
  unfold own; rw [if_neg (by omega)]
  show k0_pay7 (k0_pay5 (pos d) (xin m ρ d)) (ix3 (0 : Fin 1) (0 : Fin 1) (i 2)) = _
  generalize k0_pay5 (pos d) (xin m ρ d) = B
  generalize (i 2) = l
  pointwise [k0_pay7]

/-- A load of row `a` of eight slots from slot `o` on. -/
theorem rd_apply (c : Dev nD) {o a : ℕ} (inb : ∀ b, (![o, a, 0] : Fin 3 → ℕ) b + S8x1x512.size b ≤ S32x2x512.size b) (s : Fin 8) (l : Fin 512)
    (ho : o + s.val < 32) (ha : a < 2) :
    rd m ρ (Rect.unit (s := S32x2x512) ![o, a, 0] S8x1x512.size inb) c (ix3 s (0 : Fin 1) l) = comm m ρ c (ix3 ⟨o + s.val, ho⟩ ⟨a, ha⟩ l) := by
  show comm m ρ c ((Rect.unit (s := S32x2x512) ![o, a, 0] S8x1x512.size inb).emb (ix3 s (0 : Fin 1) l)) = _
  refine congrArg (comm m ρ c) (funext fun b => Fin.ext ((ValueKit.rect_emb_unit_val _ _ inb _ b).trans ?_))
  fin_cases b
  · rfl
  · rfl
  · exact Nat.zero_add _

/-- A chunk's pair is the pair of the rows of the eight devices whose slots it holds. -/
theorem chunk_best {X : Whole} (hX : Blocks m X) (c : Dev nD) (l : Fin 512) {o : ℕ} (ho : o + 8 ≤ 32)
    (i0 : ∀ b, (![o, 0, 0] : Fin 3 → ℕ) b + S8x1x512.size b ≤ S32x2x512.size b)
    (i1 : ∀ b, (![o, 1, 0] : Fin 3 → ℕ) b + S8x1x512.size b ≤ S32x2x512.size b) :
    Best (col X l) (⋃ s : Fin 8, rows (owner c ⟨o + s.val, by omega⟩))
      (k0_pay9 (F := Ideal) (rd m ρ (Rect.unit (s := S32x2x512) ![o, 0, 0] S8x1x512.size i0) c) (ix1 l))
      (k0_pay10 (F := Ideal) (rd m ρ (Rect.unit (s := S32x2x512) ![o, 0, 0] S8x1x512.size i0) c) (rd m ρ (Rect.unit (s := S32x2x512) ![o, 1, 0] S8x1x512.size i1) c) (ix1 l)) := by
  refine best_chunk (fun s : Fin 8 => rows (owner c ⟨o + s.val, by omega⟩)) _ _ l fun s => ?_
  rw [rd_apply m ρ c i0 s l (by omega) (by omega), rd_apply m ρ c i1 s l (by omega) (by omega)]
  unfold comm
  rw [own_val m ρ _ _ rfl, own_idx m ρ _ _ rfl]
  exact best_block (col X l) (owner c ⟨o + s.val, by omega⟩) (xin m ρ (owner c ⟨o + s.val, by omega⟩)) l fun r => xin_apply m ρ hX _ r l

/-- Every device's rows are in some slot. -/
theorem owner_surj (c d : Dev nD) : ∃ s, owner c s = d := by revert c d; decide +kernel

/-- The four chunks hold every row. -/
theorem chunks_univ (c : Dev nD) :
    (((⋃ s : Fin 8, rows (owner c ⟨0 + s.val, by omega⟩)) ∪ ⋃ s : Fin 8, rows (owner c ⟨8 + s.val, by omega⟩))
      ∪ ⋃ s : Fin 8, rows (owner c ⟨16 + s.val, by omega⟩)) ∪ (⋃ s : Fin 8, rows (owner c ⟨24 + s.val, by omega⟩)) = Set.univ := by
  refine Set.eq_univ_of_forall fun n => ?_
  obtain ⟨s, hs⟩ := owner_surj c ⟨n.val / 512, by have := n.isLt; show _ < 32; omega⟩
  have hn : n ∈ rows (owner c s) := by
    rw [hs]
    exact ⟨⟨n.val % 512, Nat.mod_lt _ (by decide)⟩, Fin.ext (by show n.val / 512 * 512 + n.val % 512 = n.val; omega)⟩
  have hmem (o : ℕ) (ho : o + 8 ≤ 32) (h1 : o ≤ s.val) (h2 : s.val < o + 8) : n ∈ ⋃ s : Fin 8, rows (owner c ⟨o + s.val, by omega⟩) := by
    refine Set.mem_iUnion.mpr ⟨⟨s.val - o, by omega⟩, ?_⟩
    have e : (⟨o + (s.val - o), by omega⟩ : Fin 32) = s := Fin.ext (by show o + (s.val - o) = s.val; omega)
    show n ∈ rows (owner c ⟨o + (s.val - o), _⟩)
    rw [e]; exact hn
  have hs32 := s.isLt
  rcases Nat.lt_or_ge s.val 8 with h | h
  · exact Or.inl (Or.inl (Or.inl (hmem 0 (by omega) (by omega) (by omega))))
  rcases Nat.lt_or_ge s.val 16 with h' | h'
  · exact Or.inl (Or.inl (Or.inr (hmem 8 (by omega) (by omega) (by omega))))
  rcases Nat.lt_or_ge s.val 24 with h'' | h''
  · exact Or.inl (Or.inr (hmem 16 (by omega) (by omega) (by omega)))
  · exact Or.inr (hmem 24 (by omega) (by omega) (by omega))

/-- The kernel's two rows at a column: the largest value of the whole column and the number of its first row. -/
theorem out_best {X : Whole} (hX : Blocks m X) (c : Dev nD) (l : Fin 512) :
    Best (col X l) Set.univ (outV m ρ c (ix1 l)) (outI m ρ c (ix1 l)) := by
  unfold outV outI
  rw [resV_eq, resI_eq, ← chunks_univ c]
  refine best_more _ _ _ _ l (best_more _ _ _ _ l (best_more _ _ _ _ l ?_ ?_) ?_) ?_
  · exact chunk_best m ρ hX c l (by omega) _ _
  · exact chunk_best m ρ hX c l (by omega) _ _
  · exact chunk_best m ρ hX c l (by omega) _ _
  · exact chunk_best m ρ hX c l (by omega) _ _

theorem twoRows_val (v w : Vec Ideal S512 .f32) (l : Fin 512) : (twoRows (F := Ideal) v w (ix2 (0 : Fin 2) l) : EReal) = v (ix1 l) := by
  have e : twoRows (F := Ideal) v w (ix2 (0 : Fin 2) l) = k0_pay1 (F := Ideal) v (ix2 (0 : Fin 1) l) := if_pos rfl
  rw [e]
  pointwise [k0_pay1]

theorem twoRows_idx (v w : Vec Ideal S512 .f32) (l : Fin 512) : (twoRows (F := Ideal) v w (ix2 (1 : Fin 2) l) : EReal) = w (ix1 l) := by
  have e : twoRows (F := Ideal) v w (ix2 (1 : Fin 2) l) = k0_pay2 (F := Ideal) w (ix2 (0 : Fin 1) l) := if_neg Nat.one_ne_zero
  rw [e]
  pointwise [k0_pay2]

theorem outAt_val (c : Dev nD) (l : Fin 512) : outAt m ρ c (ix2 (0 : Fin 2) l) = outV m ρ c (ix1 l) := twoRows_val _ _ l
theorem outAt_idx (c : Dev nD) (l : Fin 512) : outAt m ρ c (ix2 (1 : Fin 2) l) = outI m ρ c (ix1 l) := twoRows_idx _ _ l

/-- The result array after the run holds the staging buffer's contents. -/
theorem finalA_o (c : Dev nD) : finalA m ρ c (1 : Fin 2) = outAt m ρ c := by
  have hr := fun f => Memref.read_access_unit_zero (Elt Ideal) main_v1 (off := fun a => (win0_1.index (0 : Fin 1)) a * main_v1.ty.shape.size a)
    (funext fun a => by fin_cases a <;> decide) (fun a => by fin_cases a <;> decide) f
  rw [← hr (finalA m ρ c (1 : Fin 2))]
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

end Cert.ArgmaxProof

end
-- ==== Proof.Ref.lean ====
/-
# The reference's run

The reference is a straight line of host operations on one device. Its run ends with the result `refOut` of the argument:
row 0 the column maxima, row 1 the column's first row at the maximum.
-/
module

public import proofs.«01_k».proof.Proof.Gen.ReferenceIdeal
public import Idealize.ShloMosaic.Lib.StableHlo.Run

@[expose] public section

noncomputable section

namespace Cert.ArgmaxProof.Ref

open Cert.ReferenceIdeal
open Cert.ReferenceIdeal.Facts₀
open Idealize.ShloMosaic Idealize.ShloMosaic.TcCoe Idealize.ShloMosaic.StableHlo
open Idealize.SL.Sem

variable {F : FTy → Type} [FloatOps F]

/-- The pair (largest value, its first row) of each column, as the reference folds it. -/
def best (x : FVec F S16384x512 .bf16) : S512.Idx → F .bf16 × BitVec 32 :=
  Host.argReduce reducer_argmax_bf16_i32 x (iotaInDim S16384x512 32 0) (constant S_ .bf16 0xFF80#16) (constantI S_ 32 0#32) reducesTo_S16384x512_S512_d0 h_S_

/-- Each column's largest value. -/
def largest (x : FVec F S16384x512 .bf16) : FVec F S512 .bf16 :=
  Host.reduce FloatOps.maximumf x (constant S_ .bf16 0xFF80#16) reducesTo_S16384x512_S512_d0 h_S_

/-- The reference's result from its argument. -/
def refOut (x : FVec F S16384x512 .bf16) : FVec F S2x512 .f32 :=
  concatenate S2x512 0
    [⟨S1x512, broadcastInDim S1x512 ![1] bcast_S512_S1x512_1 (extf .f32 (largest x) bitsLt_bf16_f32)⟩,
      ⟨S1x512, broadcastInDim S1x512 ![1] bcast_S512_S1x512_1 (sitofp .f32 fun j => (best x j).2)⟩]
    concatenates_S1x512_S1x512_S2x512_d0

/-- @main's operations, in order. -/
abbrev ops : List (HloOp τ sig (Elt F)) :=
  [ TRef.nullary main_call0.v0 (iotaInDim S16384x512 32 0),
    TRef.nullary main_call0.cst (constant S_ .bf16 0xFF80#16),
    TRef.nullary main_call0.c (constantI S_ 32 0#32),
    TRef.quaternary (.of main_arg0) main_call0.v0 main_call0.cst main_call0.c main_call0.v1_0
      (fun x y u v j => (Host.argReduce reducer_argmax_bf16_i32 x y u v reducesTo_S16384x512_S512_d0 h_S_ j).1),
    TRef.quaternary (.of main_arg0) main_call0.v0 main_call0.cst main_call0.c main_call0.v1_1
      (fun x y u v j => (Host.argReduce reducer_argmax_bf16_i32 x y u v reducesTo_S16384x512_S512_d0 h_S_ j).2),
    unary main_v0 main_v1 (sitofp .f32 : (⟨S512, .i32⟩ : BufTy).Contents (Elt F) → (⟨S512, .f32⟩ : BufTy).Contents (Elt F)),
    nullary main_cst (constant S_ .bf16 0xFF80#16),
    binary main_arg0 main_cst main_v2 ((fun x v => Host.reduce FloatOps.maximumf x v reducesTo_S16384x512_S512_d0 h_S_) :
      (⟨S16384x512, .bf16⟩ : BufTy).Contents (Elt F) → (⟨S_, .bf16⟩ : BufTy).Contents (Elt F) → (⟨S512, .bf16⟩ : BufTy).Contents (Elt F)),
    unary main_v2 main_v3 ((extf .f32 · bitsLt_bf16_f32) : (⟨S512, .bf16⟩ : BufTy).Contents (Elt F) → (⟨S512, .f32⟩ : BufTy).Contents (Elt F)),
    unary main_v3 main_v4 (broadcastInDim S1x512 ![1] bcast_S512_S1x512_1 : (⟨S512, .f32⟩ : BufTy).Contents (Elt F) → (⟨S1x512, .f32⟩ : BufTy).Contents (Elt F)),
    unary main_v1 main_v5 (broadcastInDim S1x512 ![1] bcast_S512_S1x512_1 : (⟨S512, .f32⟩ : BufTy).Contents (Elt F) → (⟨S1x512, .f32⟩ : BufTy).Contents (Elt F)),
    binary main_v4 main_v5 main_v6 ((fun a b => concatenate S2x512 0 [⟨S1x512, a⟩, ⟨S1x512, b⟩] concatenates_S1x512_S1x512_S2x512_d0) :
      (⟨S1x512, .f32⟩ : BufTy).Contents (Elt F) → (⟨S1x512, .f32⟩ : BufTy).Contents (Elt F) → (⟨S2x512, .f32⟩ : BufTy).Contents (Elt F)) ]

/-- @main is that straight line. -/
theorem main_eq (c : Dev nD) : main (F := F) c = seq ops := rfl

set_option maxRecDepth 4000 in
/-- After the operations the result's buffer holds `refOut` of the argument; -/
theorem out_eq (V : Valuation τ sig (Elt F)) : after ops V (main_v6 : DevRef τ sig) = refOut (V (main_arg0 : DevRef τ sig)) := by
  after_results
  rfl

/-- and the argument's buffer what it held. -/
theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., unary_bufs_sub .., binary_bufs_sub ..⟩

/-- For any float values and from any memory with zero counters: every weakly fair execution of the reference terminates,
    with its result at `refOut` of the argument, the argument kept and every semaphore counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6) = refOut (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v6).trans (out_eq _), (h c main_arg0).trans (arg0_eq _)⟩, funext fun g => (no_sems g).elim⟩)
    (run_seq scopedRefs_eq scopedSems_eq defs main (fun _ => ops) main_eq (fun _ => ops_sub) m ρ)
where
  no_sems (g : GSem nD τ sig) : False := by
    rcases g with ⟨_, s | s⟩ <;> exact s.elim0

end Cert.ArgmaxProof.Ref

end
-- ==== Proof.RefValue.lean ====
/-
# What the reference computes at the extended reals

Column by column: the largest value, and the number of the first row that has it.
-/
module

public import proofs.«01_k».proof.Proof.Ref
public import proofs.«01_k».proof.Proof.Value

@[expose] public section

noncomputable section

namespace Cert.ArgmaxProof.Ref

open Cert.ReferenceIdeal
open Cert.ReferenceIdeal.Facts₀
open Idealize.ShloMosaic Idealize.ShloMosaic.TcCoe

/-- Row 0 of the reference's result is the column maxima, -/
theorem refOut_val (X : Vec Ideal S16384x512 .bf16) (l : Fin 512) : (refOut (F := Ideal) X (ix2 (0 : Fin 2) l) : EReal) = largest (F := Ideal) X (ix1 l) := by
  pointwise [refOut]

/-- row 1 the row numbers. -/
theorem refOut_idx (X : Vec Ideal S16384x512 .bf16) (l : Fin 512) :
    (refOut (F := Ideal) X (ix2 (1 : Fin 2) l) : EReal) = FloatOps.sitofp (F := Ideal) .f32 (best (F := Ideal) X (ix1 l)).2 := by
  pointwise [refOut]

theorem largest_apply (X : Vec Ideal S16384x512 .bf16) (l : Fin 512) :
    (largest (F := Ideal) X (ix1 l) : EReal) = Finset.univ.fold max ⊥ fun n : Fin 16384 => (X (ix2 n l) : EReal) := by
  pointwise [largest]
  rw [bits_bot16]

/-- `q` is no better than `p`: its value is smaller, or equal at a row no earlier. -/
def Le (q p : EReal × BitVec 32) : Prop := q.1 < p.1 ∨ (q.1 = p.1 ∧ p.2.toInt ≤ q.2.toInt)

theorem Le.refl (p : EReal × BitVec 32) : Le p p := Or.inr ⟨rfl, le_refl _⟩
theorem Le.trans (p q r : EReal × BitVec 32) (h : Le p q) (h' : Le q r) : Le p r := by
  rcases h with h | ⟨h, hi⟩ <;> rcases h' with h' | ⟨h', hi'⟩
  · exact Or.inl (h.trans h')
  · exact Or.inl (h.trans_eq h')
  · exact Or.inl (h.trans_lt h')
  · exact Or.inr ⟨h.trans h', hi'.trans hi⟩

/-- The reference's comparison keeps one of its two pairs, the better. -/
theorem reducer_spec (p q : EReal × BitVec 32) :
    (reducer_argmax_bf16_i32 (F := Ideal) p q = p ∧ Le q p) ∨ (reducer_argmax_bf16_i32 (F := Ideal) p q = q ∧ Le p q) := by
  obtain ⟨a, i⟩ := p
  obtain ⟨b, j⟩ := q
  have e : reducer_argmax_bf16_i32 (F := Ideal) (a, i) (b, j)
      = (if b < a then a else b, if b < a ∨ (a = b ∧ i.toInt < j.toInt) then i else j) := by
    have hne : ¬ a ≠ a := fun h => h rfl
    unfold reducer_argmax_bf16_i32
    simp only [Ideal.cmpf_def, Ideal.cmp, Scalar.select, IntOp.ori, IntOp.andi, IntOp.cmpi]
    by_cases h1 : b < a <;> by_cases h2 : a = b <;> by_cases h3 : i.slt j <;>
      have h3' := h3 <;> rw [BitVec.slt_iff_toInt_lt] at h3' <;> simp_all <;>
      simp [not_lt_of_ge h1]
  rw [e]
  unfold Le
  rcases lt_trichotomy a b with h | h | h
  · right; simp [h, not_lt_of_gt h, h.ne]
  · subst h
    by_cases hi : i.toInt < j.toInt
    · left; simp [hi, hi.le]
    · right; simp [hi, not_lt.mp hi]
  · left; simp [h]

/-- The pairs of a column: each row's value with its number, and no others. -/
theorem mem_fiber (X : Vec Ideal S16384x512 .bf16) (l : Fin 512) (q : EReal × BitVec 32) :
    Iff (q ∈ Host.argReduceFiber (α := EReal) X (iotaInDim S16384x512 32 0) reducesTo_S16384x512_S512_d0 (ix1 l))
      (∃ n : Fin 16384, q = (X (ix2 n l), BitVec.ofNat 32 n.val)) := by
  unfold Host.argReduceFiber
  rw [List.mem_map]
  constructor
  · rintro ⟨n, hn, rfl⟩
    have hd := of_decide_eq_true (List.mem_filter.mp hn).2
    generalize S16384x512.rowMajor.symm n = i at hd
    refine ⟨i 0, ?_⟩
    have hv : (reducesTo_S16384x512_S512_d0.drop i 0 : Nat) = i 1 := Shape.ReducesTo.drop_apply_val reducesTo_S16384x512_S512_d0 i 0
    rw [hd] at hv
    have e : i = ix2 (i 0) l := funext fun a => by
      fin_cases a
      · rfl
      · exact Fin.ext hv.symm
    rw [e]; rfl
  · rintro ⟨n, rfl⟩
    refine ⟨S16384x512.rowMajor (ix2 n l), List.mem_filter.mpr ⟨List.mem_finRange _, decide_eq_true ?_⟩, ?_⟩
    · rw [Equiv.symm_apply_apply]
      refine funext fun a => ?_
      have ha : a = 0 := Subsingleton.elim _ _
      subst ha
      exact Fin.ext (Shape.ReducesTo.drop_apply_val reducesTo_S16384x512_S512_d0 (ix2 n l) 0)
    · rw [Equiv.symm_apply_apply]; rfl

/-- The reference's two rows at a column: the largest value of the column and the number of the first row that has it. -/
theorem ref_best (X : Vec Ideal S16384x512 .bf16) (l : Fin 512) :
    Best (fun n : Fin 16384 => (X (ix2 n l) : EReal)) Set.univ (refOut (F := Ideal) X (ix2 (0 : Fin 2) l)) (refOut (F := Ideal) X (ix2 (1 : Fin 2) l)) := by
  rw [refOut_val, refOut_idx, largest_apply]
  have hb : (best (F := Ideal) X (ix1 l) : EReal × BitVec 32)
      = (Host.argReduceFiber (α := EReal) X (iotaInDim S16384x512 32 0) reducesTo_S16384x512_S512_d0 (ix1 l)).foldl
          (reducer_argmax_bf16_i32 (F := Ideal)) (⊥, 0#32) := by
    unfold best
    rw [Ideal.argReduce_eq_reduce2, Host.reduce2_eq_foldl_fiber, ← bits_bot16]
    rfl
  rw [hb]
  obtain ⟨h1, -, h3⟩ := foldl_spec Le Le.refl Le.trans (reducer_argmax_bf16_i32 (F := Ideal)) reducer_spec
    (Host.argReduceFiber (α := EReal) X (iotaInDim S16384x512 32 0) reducesTo_S16384x512_S512_d0 (ix1 l)) (⊥, 0#32)
  generalize (Host.argReduceFiber (α := EReal) X (iotaInDim S16384x512 32 0) reducesTo_S16384x512_S512_d0 (ix1 l)).foldl
          (reducer_argmax_bf16_i32 (F := Ideal)) (⊥, 0#32) = p at h1 h3
  have hle (n : Fin 16384) : Le (X (ix2 n l), BitVec.ofNat 32 n.val) p := h3 _ ((mem_fiber X l _).mpr ⟨n, rfl⟩)
  have hp : ∃ n : Fin 16384, p = (X (ix2 n l), BitVec.ofNat 32 n.val) := by
    rcases h1 with h1 | h1
    · refine ⟨0, ?_⟩
      rcases hle 0 with h | ⟨h, -⟩
      · rw [h1] at h; exact absurd h not_lt_bot
      · rw [h1] at h ⊢; exact Prod.ext h.symm rfl
    · exact (mem_fiber X l p).mp h1
  obtain ⟨n, rfl⟩ := hp
  have hi (k : Fin 16384) : (BitVec.ofNat 32 k.val).toInt = (k.val : ℤ) := toInt_ofNat (by have := k.isLt; omega)
  have hx (k : Fin 16384) : (X (ix2 k l) : EReal) ≤ X (ix2 n l) := by
    rcases hle k with h | ⟨h, -⟩
    · exact h.le
    · exact h.le
  refine ⟨n, Set.mem_univ n, ?_, word_num (hi n), fun k _ => ⟨hx k, fun e => ?_⟩⟩
  · obtain ⟨h1, -, -⟩ := fold_max_spec Finset.univ (⊥ : EReal) fun n : Fin 16384 => (X (ix2 n l) : EReal)
    obtain ⟨k, hk⟩ := fold_max_attained (0 : Fin 16384) fun n : Fin 16384 => (X (ix2 n l) : EReal)
    exact le_antisymm (hk.trans_le (hx k)) (h1 n (Finset.mem_univ n))
  · rcases hle k with h | ⟨-, h⟩
    · exact absurd e h.ne
    · have h' : (BitVec.ofNat 32 n.val).toInt ≤ (BitVec.ofNat 32 k.val).toInt := h
      rw [hi, hi] at h'
      exact_mod_cast h'

end Cert.ArgmaxProof.Ref

end
-- ==== Proof.Result.lean ====
/-
# The kernel's result and the reference's

Both hold, column by column, the largest value of the column and the number of the first row that has it; such a pair is
one, so the two arrays are equal.
-/
module

public import proofs.«01_k».proof.Proof.Column
public import proofs.«01_k».proof.Proof.RefValue

@[expose] public section

noncomputable section

namespace Cert.ArgmaxProof

open Cert.KernelIdeal Cert.KernelIdeal.Gen
open Idealize.ShloMosaic Idealize.ShloMosaic.TcCoe Idealize.SL.Sem

/-- On every device the kernel's result is the reference's, of the array whose blocks the devices hold. -/
theorem outAt_eq (m : (ℓ : Loc nD τ sig) → Buf (Elt Ideal) ℓ) (ρ : Dev nD → PrngReg) (X : Whole) (hX : Blocks m X) (c : Dev nD) :
    outAt m ρ c = Ref.refOut (F := Ideal) X := by
  have h (l : Fin 512) : outAt m ρ c (ix2 (0 : Fin 2) l) = Ref.refOut (F := Ideal) X (ix2 (0 : Fin 2) l)
      ∧ outAt m ρ c (ix2 (1 : Fin 2) l) = Ref.refOut (F := Ideal) X (ix2 (1 : Fin 2) l) := by
    have e := (out_best m ρ hX c l).unique (Ref.ref_best X l)
    rw [outAt_val, outAt_idx]
    exact e
  funext i
  have hi : i = ix2 (i 0 : Fin 2) (i 1 : Fin 512) := funext fun a => by fin_cases a <;> rfl
  rw [hi]
  generalize (i 0 : Fin 2) = a
  generalize (i 1 : Fin 512) = l
  fin_cases a
  · exact (h l).1
  · exact (h l).2

end Cert.ArgmaxProof

end
-- ==== Proof.lean ====
/-
# The claims

The printed kernel's run, the kernel's run at the extended reals, the reference's run, and the kernel's result against the
reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Result
public import Idealize.ShloMosaic.Adequacy
public import Idealize.ShloMosaic.Init

@[expose] public section

noncomputable section

namespace Cert.Proof

open Idealize.ShloMosaic Idealize.SL.Sem
open Cert.ArgmaxProof

/-- The kernel and the kernel read at the extended reals have one text: their bodies are one table, -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl

/-- and so are their pipelines, -/
theorem defs_eq : Cert.Kernel.defs (F := Bits) = Cert.KernelIdeal.defs (F := Bits) := by
  unfold Cert.Kernel.defs Cert.KernelIdeal.defs
  rw [bodies_eq]
  rfl

/-- and their runs. -/
theorem run_eq (s : MemSt Cert.KernelIdeal.nD Cert.KernelIdeal.τ Cert.KernelIdeal.sig (Elt Bits)) :
    θ_run (Cert.Kernel.defs (F := Bits)) (onTc (τ := Cert.Kernel.τ) (Cert.Kernel.main (F := Bits))) s
      = θ_run (Cert.KernelIdeal.defs (F := Bits)) (onTc (τ := Cert.KernelIdeal.τ) (Cert.KernelIdeal.main (F := Bits))) s := by
  rw [defs_eq]
  rfl

/-- At any float values the kernel runs on every device to its end, leaves its argument as it was and every semaphore at
    zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run (Cert.KernelIdeal.defs (F := F)) _ _).mono (fun _ h => ⟨fun c => (h.1 c 0).trans (finalA_x m ρ c), h.2⟩) (run_main (F := F) m ρ)

/-- So does the kernel as printed, -/
theorem frame_kernel : Cert.quiescent_Kernel (hKernel := Cert.Kernel.Gen.facts) := fun m ρ _ => by
  have h := frame_any (F := Bits) m ρ
  rw [← run_eq] at h
  exact h

/-- and the kernel read at the extended reals. -/
theorem frame_kernelIdeal : Cert.quiescent_KernelIdeal (hKernelIdeal := Cert.KernelIdeal.Gen.facts) := fun m ρ _ => frame_any (F := Ideal) m ρ

/-- The same of the reference. -/
theorem frame_referenceIdeal : Cert.quiescent_ReferenceIdeal (hReferenceIdeal := Cert.ReferenceIdeal.Gen.facts) := fun m ρ _ =>
  (θ_run (Cert.ReferenceIdeal.defs (F := Ideal)) _ _).mono (fun _ h => ⟨fun c => (h.1 c).2, h.2⟩) (Ref.run_main (F := Ideal) m ρ)

/-- From blocks of one array, every device of the kernel ends holding the result the reference has of the whole array. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨Ref.refOut (F := Ideal) (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨((h.1 c 1).trans (finalA_o m ρ c)).trans (outAt_eq m ρ _ hagree c), (h.1 c 0).trans (finalA_x m ρ c)⟩) (run_main (F := Ideal) m ρ)
  · exact (θ_run (Cert.ReferenceIdeal.defs (F := Ideal)) _ _).mono (fun _ h => h.1 0) (Ref.run_main (F := Ideal) m' ρ')

/-- Everything claimed. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
